-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1536x1792 : Shape := ⟨3, ![2, 1536, 1792]⟩
abbrev S128 : Shape := ⟨1, ![128]⟩
abbrev S1024x128 : Shape := ⟨2, ![1024, 128]⟩
abbrev S1024x1792 : Shape := ⟨2, ![1024, 1792]⟩
abbrev S8x14 : Shape := ⟨2, ![8, 14]⟩
abbrev S1x128 : Shape := ⟨2, ![1, 128]⟩
abbrev S3072x1792 : Shape := ⟨2, ![3072, 1792]⟩
abbrev S3072x1024 : Shape := ⟨2, ![3072, 1024]⟩
abbrev S3072x14 : Shape := ⟨2, ![3072, 14]⟩
abbrev S512x1792 : Shape := ⟨2, ![512, 1792]⟩
abbrev S512x1024 : Shape := ⟨2, ![512, 1024]⟩
abbrev S512x14 : Shape := ⟨2, ![512, 14]⟩
abbrev S16x1792 : Shape := ⟨2, ![16, 1792]⟩
abbrev S128x128 : Shape := ⟨2, ![128, 128]⟩
abbrev S16x128 : Shape := ⟨2, ![16, 128]⟩
abbrev S1x1 : Shape := ⟨2, ![1, 1]⟩
abbrev S128x1 : Shape := ⟨2, ![128, 1]⟩
abbrev S1x256 : Shape := ⟨2, ![1, 256]⟩
abbrev S128x256 : Shape := ⟨2, ![128, 256]⟩
abbrev S128x14 : Shape := ⟨2, ![128, 14]⟩
abbrev S128x1792 : Shape := ⟨2, ![128, 1792]⟩
abbrev S128x1024 : Shape := ⟨2, ![128, 1024]⟩

abbrev nBuf : Space → Nat
  | .hbm => 10
  | .vmem => 14
  | .smem => 1
  | _ => 0

abbrev bufTy : (tb : Table) → Fin (tcTables nBuf tb) → BufTy
  | .hbm, ⟨0, _⟩ => ⟨S2x1536x1792, .bf16⟩
  | .hbm, ⟨1, _⟩ => ⟨S128, .i32⟩
  | .hbm, ⟨2, _⟩ => ⟨S1024x128, .bf16⟩
  | .hbm, ⟨3, _⟩ => ⟨S1024x1792, .fp8e4m3⟩
  | .hbm, ⟨4, _⟩ => ⟨S8x14, .f32⟩
  | .hbm, ⟨5, _⟩ => ⟨S1x128, .i32⟩
  | .hbm, ⟨6, _⟩ => ⟨S3072x1792, .bf16⟩
  | .hbm, ⟨7, _⟩ => ⟨S3072x1024, .bf16⟩
  | .hbm, ⟨8, _⟩ => ⟨S3072x1792, .fp8e4m3⟩
  | .hbm, ⟨9, _⟩ => ⟨S3072x14, .f32⟩
  | .local _ .vmem, ⟨0, _⟩ => ⟨S1x128, .i32⟩
  | .local _ .vmem, ⟨1, _⟩ => ⟨S1024x128, .bf16⟩
  | .local _ .vmem, ⟨2, _⟩ => ⟨S1024x1792, .fp8e4m3⟩
  | .local _ .vmem, ⟨3, _⟩ => ⟨S512x1792, .bf16⟩
  | .local _ .vmem, ⟨4, _⟩ => ⟨S512x1792, .bf16⟩
  | .local _ .vmem, ⟨5, _⟩ => ⟨S512x1024, .bf16⟩
  | .local _ .vmem, ⟨6, _⟩ => ⟨S512x1024, .bf16⟩
  | .local _ .vmem, ⟨7, _⟩ => ⟨S512x1792, .fp8e4m3⟩
  | .local _ .vmem, ⟨8, _⟩ => ⟨S512x1792, .fp8e4m3⟩
  | .local _ .vmem, ⟨9, _⟩ => ⟨S512x14, .f32⟩
  | .local _ .vmem, ⟨10, _⟩ => ⟨S512x14, .f32⟩
  | .local _ .vmem, ⟨11, _⟩ => ⟨S1024x1792, .bf16⟩
  | .local _ .vmem, ⟨12, _⟩ => ⟨S16x1792, .bf16⟩
  | .local _ .vmem, ⟨13, _⟩ => ⟨S512x1792, .bf16⟩
  | .local _ .smem, ⟨0, _⟩ => ⟨S8x14, .f32⟩
  | _, _ => ⟨S2x1536x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S8x14 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1792 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x14 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x1536x1792 : Shape := ⟨3, ![2, 1536, 1792]⟩
abbrev S128 : Shape := ⟨1, ![128]⟩
abbrev S1024x128 : Shape := ⟨2, ![1024, 128]⟩
abbrev S1024x1792 : Shape := ⟨2, ![1024, 1792]⟩
abbrev S8x14 : Shape := ⟨2, ![8, 14]⟩
abbrev S3072x1792 : Shape := ⟨2, ![3072, 1792]⟩
abbrev S1x128 : Shape := ⟨2, ![1, 128]⟩
abbrev S3072x1024 : Shape := ⟨2, ![3072, 1024]⟩
abbrev S3072x14 : Shape := ⟨2, ![3072, 14]⟩
abbrev S1792x128 : Shape := ⟨2, ![1792, 128]⟩
abbrev S1792 : Shape := ⟨1, ![1792]⟩
abbrev S1x1792 : Shape := ⟨2, ![1, 1792]⟩
abbrev S3072x14x128 : Shape := ⟨3, ![3072, 14, 128]⟩
abbrev S3072x14x1 : Shape := ⟨3, ![3072, 14, 1]⟩
abbrev S8x128x14x128 : Shape := ⟨4, ![8, 128, 14, 128]⟩
abbrev S8x1x14x1 : Shape := ⟨4, ![8, 1, 14, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x1536x1792, .bf16⟩
  | .hbm, ⟨1, _⟩ => ⟨S128, .i32⟩
  | .hbm, ⟨2, _⟩ => ⟨S1024x128, .bf16⟩
  | .hbm, ⟨3, _⟩ => ⟨S1024x1792, .fp8e4m3⟩
  | .hbm, ⟨4, _⟩ => ⟨S8x14, .f32⟩
  | .hbm, ⟨5, _⟩ => ⟨S3072x1792, .bf16⟩
  | .hbm, ⟨6, _⟩ => ⟨S1x128, .i32⟩
  | .hbm, ⟨7, _⟩ => ⟨S3072x1024, .bf16⟩
  | .hbm, ⟨8, _⟩ => ⟨S3072x1792, .fp8e4m3⟩
  | .hbm, ⟨9, _⟩ => ⟨S3072x14, .f32⟩
  | .local _ .vmem, ⟨0, _⟩ => ⟨S3072x1792, .bf16⟩
  | .local _ .vmem, ⟨1, _⟩ => ⟨S1x128, .i32⟩
  | .local _ .vmem, ⟨2, _⟩ => ⟨S1024x128, .bf16⟩
  | .local _ .vmem, ⟨3, _⟩ => ⟨S1024x1792, .fp8e4m3⟩
  | .local _ .vmem, ⟨4, _⟩ => ⟨S8x14, .f32⟩
  | .local _ .vmem, ⟨5, _⟩ => ⟨S3072x1024, .bf16⟩
  | .local _ .vmem, ⟨6, _⟩ => ⟨S3072x1792, .fp8e4m3⟩
  | .local _ .vmem, ⟨7, _⟩ => ⟨S3072x14, .f32⟩
  | _, _ => ⟨S2x1536x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S3072x1792 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1792 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x14 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3072x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3072x1792 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x14 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Blocks.lean ====
/- What one 128 × 128 block of the kernel computes, one function per value: the same operations the program prints,
   over the loads they read, at any arithmetic. The printed program repeats them 56 times for the activations and
   112 times for the weight, cut into pieces at other places each time; every one of those unfolds to these. -/
module

public import proofs.«01_k».proof.Proof.Gen.KernelIdeal

@[expose] public section

set_option synthInstance.maxSize 4096

noncomputable section

namespace Cert.KernelIdeal.Hand

open Idealize.ShloMosaic Idealize.SL.Sem Cert.KernelIdeal Cert.KernelIdeal.Gen

variable {F : FTy → Type} [FloatOps F]

/-! ## Activations -/

/-- Which channels of the block are quantised. -/
def maskB (k : Vec F S1x128 .bf16) : IVec S128x128 1 :=
  cmpf .ogt (broadcastTo S128x128 (shapeCast S1x128 k shapeCasts_S1x128_S1x128) broadcasts_S1x128_S128x128)
    (broadcast S128x128 (Scalar.ofBits (F := F) .bf16 0x0000#16))

/-- The block without its outlier channels. -/
def xinB (k : Vec F S1x128 .bf16) (x : Vec F S128x128 .bf16) : FVec F S128x128 .bf16 :=
  select (maskB k) (shapeCast S128x128 x shapeCasts_S128x128_S128x128) (broadcast S128x128 (Scalar.ofBits (F := F) .bf16 0x0000#16))

/-- Each row's magnitude. -/
def magB (k : Vec F S1x128 .bf16) (x : Vec F S128x128 .bf16) : FVec F S128x1 .f32 :=
  extf .f32 (shapeCast S128x1 (multiReduction .maximumf [1] S128 (absf (xinB k x)) 0xFF80#16 reduces_S128x128_S128_2 (.inr rfl) rfl)
    shapeCasts_S128_S128x1) bitsLt_bf16_f32

/-- The exponent field of each row's magnitude: the largest one it reaches. -/
def fieldB (a : FVec F S128x1 .f32) : IVec S128x1 32 :=
  shapeCast S128x1 (multiReductionI .maxsi [1] S128
    (select (cmpf .oge (broadcastTo S128x256 a broadcasts_S128x1_S128x256)
        (broadcastTo S128x256 (bitcastToFloat (F := F) .f32 (shli (shli (iota .tc S1x256 32 [1] iota_S1x256_d1_w32) (broadcast S1x256 7#32))
          (broadcast S1x256 16#32))) broadcasts_S1x256_S128x256))
      (broadcastTo S128x256 (shapeCast S1x256 (shli (iota .tc S1x256 32 [1] iota_S1x256_d1_w32) (broadcast S1x256 7#32))
        shapeCasts_S1x256_S1x256) broadcasts_S1x256_S128x256)
      (broadcast S128x256 0#32))
    2147483648#32 reduces_S128x256_S128 rfl) shapeCasts_S128_S128x1

/-- The words of a row's field, one per fraction. -/
def wordsB (f : IVec S128x1 32) : IVec S128x128 32 :=
  addi (broadcastTo S128x128 f broadcasts_S128x1_S128x128)
    (broadcastTo S128x128 (iota .tc S1x128 32 [1] iota_S1x128_d1_w32) broadcasts_S1x128_S128x128)

/-- The word of each row's magnitude, the quarter added. -/
def roundedB (a : FVec F S128x1 .f32) : IVec S128x1 32 :=
  addi (shapeCast S128x1 (multiReductionI .maxsi [1] S128
    (select (cmpf .oge (broadcastTo S128x128 a broadcasts_S128x1_S128x128)
        (bitcastToFloat (F := F) .f32 (shli (wordsB (fieldB a)) (broadcast S128x128 16#32))))
      (wordsB (fieldB a)) (broadcast S128x128 0#32))
    2147483648#32 reduces_S128x128_S128_2 rfl) shapeCasts_S128_S128x1) (broadcast S128x1 32#32)

/-- The bits of each row's reciprocal scale. -/
def invBitsB (b : IVec S128x1 32) : IVec S128x1 32 :=
  select (andi (cmpi .sge b (broadcast S128x1 1280#32)) (cmpi .slt b (broadcast S128x1 32672#32)))
    (subi (broadcast S128x1 33536#32) (andi b (broadcast S128x1 32640#32))) (broadcast S128x1 16256#32)

/-- The rows' scales, along the lanes. -/
def scB (k : Vec F S1x128 .bf16) (x : Vec F S128x128 .bf16) : FVec F S128x128 .f32 :=
  broadcastTo S128x128 (shapeCast S128x1 (bitcastToFloat (F := F) .f32 (shli (subi (broadcast S128x1 32512#32) (invBitsB (roundedB (magB k x))))
    (broadcast S128x1 16#32))) shapeCasts_S128x1_S128x1) broadcasts_S128x1_S128x128

/-- The rows' reciprocal scales, along the lanes. -/
def invB (k : Vec F S1x128 .bf16) (x : Vec F S128x128 .bf16) : FVec F S128x128 .f32 :=
  broadcastTo S128x128 (shapeCast S128x1 (bitcastToFloat (F := F) .f32 (shli (invBitsB (roundedB (magB k x)))
    (broadcast S128x1 16#32))) shapeCasts_S128x1_S128x1) broadcasts_S128x1_S128x128

/-- The block's codes. -/
def codesB (k : Vec F S1x128 .bf16) (x : Vec F S128x128 .bf16) : FVec F S128x128 .fp8e4m3 :=
  truncf .fp8e4m3 (minimumf (broadcast S128x128 (Scalar.truncf (F := F) .bf16 bitsLt_bf16_f32 (Scalar.ofBits .f32 0x43E00000#32)))
    (maximumf (broadcast S128x128 (Scalar.truncf (F := F) .bf16 bitsLt_bf16_f32 (Scalar.ofBits .f32 0xC3E00000#32)))
      (mulf (xinB k x) (truncf .bf16 (invB k x) bitsLt_bf16_f32)))) bitsLt_fp8e4m3_bf16

/-- The block read back from its codes, outlier channels as they came. -/
def xcB (k : Vec F S1x128 .bf16) (x : Vec F S128x128 .bf16) : FVec F S128x128 .bf16 :=
  shapeCast S128x128 (select (maskB k) (mulf (extf .bf16 (codesB k x) bitsLt_fp8e4m3_bf16) (truncf .bf16 (scB k x) bitsLt_bf16_f32))
    (shapeCast S128x128 x shapeCasts_S128x128_S128x128)) shapeCasts_S128x128_S128x128

/-- Scales gathered by lane: lane `g` holds block `g`'s, the others what they held. -/
def stepB (g : BitVec 32) (k : Vec F S1x128 .bf16) (x : Vec F S128x128 .bf16) (v : FVec F S128x128 .f32) : FVec F S128x128 .f32 :=
  select (cmpi .eq (iota .tc S128x128 32 [1] iota_S128x128_d1_w32) (broadcast S128x128 g)) (scB k x) v

/-- All fourteen blocks' scales. -/
def xsB (k : Fin 14 → Vec F S1x128 .bf16) (x : Fin 14 → Vec F S128x128 .bf16) : FVec F S128x14 .f32 :=
  extractStridedSlice S128x14 ![0, 0]
    (stepB 13#32 (k 13) (x 13) (stepB 12#32 (k 12) (x 12) (stepB 11#32 (k 11) (x 11) (stepB 10#32 (k 10) (x 10)
    (stepB 9#32 (k 9) (x 9) (stepB 8#32 (k 8) (x 8) (stepB 7#32 (k 7) (x 7) (stepB 6#32 (k 6) (x 6)
    (stepB 5#32 (k 5) (x 5) (stepB 4#32 (k 4) (x 4) (stepB 3#32 (k 3) (x 3) (stepB 2#32 (k 2) (x 2)
    (stepB 1#32 (k 1) (x 1) (stepB 0#32 (k 0) (x 0) (broadcast S128x128 (Scalar.ofBits (F := F) .f32 0x00000000#32))))))))))))))))
    slices_S128x128_o0_0_S128x14

/-- 128 rows of the product. -/
def yB (xc : Vec F S128x1792 .bf16) (w : Vec F S1024x1792 .bf16) : FVec F S128x1024 .bf16 :=
  truncf .bf16 (matmul dot_S128x1792_S1024x1792_S128x1024_1_1_0_0_n_n none xc w (constant S128x1024 .f32 0x00000000#32)) bitsLt_bf16_f32

/-! ## Weight -/

/-- The outlier slots' channels, one row per slot. -/
def slotB (i : Vec F S1x128 .i32) : IVec S128x128 32 :=
  transpose S128x128 [1, 0] (broadcastTo S128x128 (shapeCast S1x128 (shapeCast S1x128 i shapeCasts_S1x128_S1x128) shapeCasts_S1x128_S1x128)
    broadcasts_S1x128_S128x128) transposes_S128x128_p1_0_S128x128

/-- One where slot `r` names channel `o + c`. -/
def onehotB (o : BitVec 32) (i : Vec F S1x128 .i32) : FVec F S128x128 .f32 :=
  select (cmpi .eq (slotB (F := F) i) (addi (iota .tc S128x128 32 [1] iota_S128x128_d1_w32) (broadcast S128x128 o)))
    (broadcast S128x128 (Scalar.ofBits (F := F) .f32 0x3F800000#32)) (broadcast S128x128 (Scalar.ofBits (F := F) .f32 0x00000000#32))

/-- One at the channels no slot names. -/
def keepB (o : BitVec 32) (i : Vec F S1x128 .i32) : FVec F S16x128 .bf16 :=
  shapeCast S16x128 (truncf .bf16 (broadcastTo S16x128 (shapeCast S1x128
    (subf (broadcast S1x128 (Scalar.ofBits (F := F) .f32 0x3F800000#32))
      (shapeCast S1x128 (multiReduction .maximumf [0] S128 (onehotB (F := F) o i) 0xFF800000#32 reduces_S128x128_S128 (.inl rfl) rfl) shapeCasts_S128_S1x128))
    shapeCasts_S1x128_S1x128) broadcasts_S1x128_S16x128) bitsLt_bf16_f32) shapeCasts_S16x128_S16x128

/-- The outlier columns, spread to their channels. -/
def wfullB (o : BitVec 32) (i : Vec F S1x128 .i32) (w : Vec F S1024x128 .bf16) : FVec F S1024x128 .bf16 :=
  truncf .bf16 (matmul dot_S1024x128_S128x128_S1024x128_1_0_0_1_n_n none w (truncf .bf16 (onehotB (F := F) o i) bitsLt_bf16_f32)
    (constant S1024x128 .f32 0x00000000#32)) bitsLt_bf16_f32

/-- One block of the weight: codes times scale, and the outlier columns where they lie (`n`: the block's first row). -/
def wB (n : ℕ) (h : S1024x128.Slices ![n, 0] S128x128) (wf : FVec F S1024x128 .bf16) (s : Elt F .f32)
    (q : Vec F S128x128 .fp8e4m3) (k : Vec F S1x128 .bf16) : FVec F S128x128 .bf16 :=
  shapeCast S128x128 (select (maskB k) (mulf (extf .bf16 q bitsLt_fp8e4m3_bf16)
      (truncf .bf16 (broadcast S128x128 s) bitsLt_bf16_f32))
    (extractStridedSlice S128x128 ![n, 0] wf h)) shapeCasts_S128x128_S128x128

end Cert.KernelIdeal.Hand

end
-- ==== Proof.Loads.lean ====
/- What the kernel's loads read of its buffers: one row of 128 flags, one 128 × 128 block, 128 whole rows. -/
module

public import proofs.«01_k».proof.Proof.Blocks
public import proofs.«01_k».proof.Proof.Gen.KernelIdeal.Frame
public import Idealize.ShloMosaic.Lib.Pipeline.Value
public import Idealize.ShloMosaic.Lib.Pipeline.ValueKit

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.Sem Cert.KernelIdeal Cert.KernelIdeal.Gen

variable {F : FTy → Type} [FloatOps F]

theorem inbK (g : Fin 14) : ∀ a, (![0, 128 * g.val] : Fin 2 → Nat) a + S1x128.size a ≤ S16x1792.size a := by
  revert g; decide
theorem inbX (r : Fin 4) (g : Fin 14) : ∀ a, (![128 * r.val, 128 * g.val] : Fin 2 → Nat) a + S128x128.size a ≤ S512x1792.size a := by
  revert r g; decide
theorem inbQ (n : Fin 8) (g : Fin 14) : ∀ a, (![128 * n.val, 128 * g.val] : Fin 2 → Nat) a + S128x128.size a ≤ S1024x1792.size a := by
  revert n g; decide
theorem inbS (n : Fin 8) (g : Fin 14) : ∀ a, (![n.val, g.val] : Fin 2 → Nat) a + S1x1.size a ≤ S8x14.size a := by
  revert n g; decide
theorem inbR (r : Fin 4) : ∀ a, (![128 * r.val, 0] : Fin 2 → Nat) a + S128x1792.size a ≤ S512x1792.size a := by
  revert r; decide
theorem inbT (r : Fin 4) : ∀ a, (![128 * r.val, 0] : Fin 2 → Nat) a + S128x14.size a ≤ S512x14.size a := by
  revert r; decide
theorem inbY (r : Fin 4) : ∀ a, (![128 * r.val, 0] : Fin 2 → Nat) a + S128x1024.size a ≤ S512x1024.size a := by
  revert r; decide
theorem inbK16 (g : Fin 14) : ∀ a, (![0, 128 * g.val] : Fin 2 → Nat) a + S16x128.size a ≤ S16x1792.size a := by
  revert g; decide

/-- Where block `g`'s flags lie. -/
abbrev rK (g : Fin 14) : Rect S16x1792 := Rect.unit (s := S16x1792) ![0, 128 * g.val] S1x128.size (inbK g)
abbrev rK16 (g : Fin 14) : Rect S16x1792 := Rect.unit (s := S16x1792) ![0, 128 * g.val] S16x128.size (inbK16 g)
/-- Where block `(r, g)` of the activations lies. -/
abbrev rX (r : Fin 4) (g : Fin 14) : Rect S512x1792 := Rect.unit (s := S512x1792) ![128 * r.val, 128 * g.val] S128x128.size (inbX r g)
/-- Where block `(n, g)` of the weight lies. -/
abbrev rQ (n : Fin 8) (g : Fin 14) : Rect S1024x1792 := Rect.unit (s := S1024x1792) ![128 * n.val, 128 * g.val] S128x128.size (inbQ n g)
/-- Where block `(n, g)`'s scale lies. -/
abbrev rS (n : Fin 8) (g : Fin 14) : Rect S8x14 := Rect.unit (s := S8x14) ![n.val, g.val] S1x1.size (inbS n g)
/-- Rows `128 r` to `128 r + 127`. -/
abbrev rR (r : Fin 4) : Rect S512x1792 := Rect.unit (s := S512x1792) ![128 * r.val, 0] S128x1792.size (inbR r)
abbrev rT (r : Fin 4) : Rect S512x14 := Rect.unit (s := S512x14) ![128 * r.val, 0] S128x14.size (inbT r)
abbrev rY (r : Fin 4) : Rect S512x1024 := Rect.unit (s := S512x1024) ![128 * r.val, 0] S128x1024.size (inbY r)

/-- Block `g`'s flags. -/
def kAt (K : Vec F S16x1792 .bf16) (g : Fin 14) : Vec F S1x128 .bf16 := fun j => K ((rK g).emb j)
/-- Block `(r, g)` of the activations. -/
def xAt (X : Vec F S512x1792 .bf16) (r : Fin 4) (g : Fin 14) : Vec F S128x128 .bf16 := fun j => X ((rX r g).emb j)

/-- The pieces stored. -/
def pC (K : Vec F S16x1792 .bf16) (X : Vec F S512x1792 .bf16) (r : Fin 4) (g : Fin 14) : View.Piece (Elt F) S512x1792 .fp8e4m3 :=
  ⟨rX r g, codesB (kAt K g) (xAt X r g)⟩
def pXc (K : Vec F S16x1792 .bf16) (X : Vec F S512x1792 .bf16) (r : Fin 4) (g : Fin 14) : View.Piece (Elt F) S512x1792 .bf16 :=
  ⟨rX r g, xcB (kAt K g) (xAt X r g)⟩
def pT (K : Vec F S16x1792 .bf16) (X : Vec F S512x1792 .bf16) (r : Fin 4) : View.Piece (Elt F) S512x14 .f32 :=
  ⟨rT r, xsB (fun g => kAt K g) (fun g => xAt X r g)⟩

/-- The whole weight. -/
abbrev rW : Rect S1024x1792 := Rect.unit (s := S1024x1792) ![0, 0] S1024x1792.size inb_S1024x1792_S1024x1792_0_0

/-- The blocks of rows `128 r` on stored over those stored before. -/
def xcRow (K : Vec F S16x1792 .bf16) (X : Vec F S512x1792 .bf16) (r : Fin 4) (L : List (View.Piece (Elt F) S512x1792 .bf16)) :
    List (View.Piece (Elt F) S512x1792 .bf16) :=
  pXc K X r 13 :: pXc K X r 12 :: pXc K X r 11 :: pXc K X r 10 :: pXc K X r 9 :: pXc K X r 8 :: pXc K X r 7 :: pXc K X r 6 :: pXc K X r 5 :: pXc K X r 4 :: pXc K X r 3 :: pXc K X r 2 :: pXc K X r 1 :: pXc K X r 0 :: L
/-- What is stored when rows `128 r` are read for the product. -/
def xcs (K : Vec F S16x1792 .bf16) (X : Vec F S512x1792 .bf16) : Fin 4 → List (View.Piece (Elt F) S512x1792 .bf16)
  | 0 => xcRow K X 0 []
  | 1 => xcRow K X 1 (xcRow K X 0 [])
  | 2 => xcRow K X 2 (xcRow K X 1 (xcRow K X 0 []))
  | 3 => xcRow K X 3 (xcRow K X 2 (xcRow K X 1 (xcRow K X 0 [])))
def pY (K : Vec F S16x1792 .bf16) (X : Vec F S512x1792 .bf16) (W : Vec F S1024x1792 .bf16) (r : Fin 4) : View.Piece (Elt F) S512x1024 .bf16 :=
  ⟨rY r, yB (fun j => View.canon (xcs K X r) ((rR r).emb j)) (fun j => W (rW.emb j))⟩

/-- The slots' channels, read whole; the outlier columns, read whole. -/
def iAt (I : Vec F S1x128 .i32) : Vec F S1x128 .i32 := fun j => I ((Rect.unit (s := S1x128) ![0, 0] S1x128.size inb_S1x128_S1x128_0_0).emb j)
def oAt (O : Vec F S1024x128 .bf16) : Vec F S1024x128 .bf16 := fun j => O ((Rect.unit (s := S1024x128) ![0, 0] S1024x128.size inb_S1024x128_S1024x128_0_0).emb j)
/-- Block `(n, g)` of the weight's codes, and its scale. -/
def qAt (Q : Vec F S1024x1792 .fp8e4m3) (n : Fin 8) (g : Fin 14) : Vec F S128x128 .fp8e4m3 := fun j => Q ((rQ n g).emb j)

theorem slW (n : Fin 8) : S1024x128.Slices ![128 * n.val, 0] S128x128 := by revert n; decide

/-- Block `g`'s flags as stored. -/
def pK (I : Vec F S1x128 .i32) (g : Fin 14) : View.Piece (Elt F) S16x1792 .bf16 :=
  ⟨rK16 g, keepB (BitVec.ofNat 32 (128 * g.val)) (iAt I)⟩
/-- The flags of blocks `g` down to 0. -/
def kls (I : Vec F S1x128 .i32) : Fin 14 → List (View.Piece (Elt F) S16x1792 .bf16)
  | 0 => [pK I 0]
  | 1 => [pK I 1, pK I 0]
  | 2 => [pK I 2, pK I 1, pK I 0]
  | 3 => [pK I 3, pK I 2, pK I 1, pK I 0]
  | 4 => [pK I 4, pK I 3, pK I 2, pK I 1, pK I 0]
  | 5 => [pK I 5, pK I 4, pK I 3, pK I 2, pK I 1, pK I 0]
  | 6 => [pK I 6, pK I 5, pK I 4, pK I 3, pK I 2, pK I 1, pK I 0]
  | 7 => [pK I 7, pK I 6, pK I 5, pK I 4, pK I 3, pK I 2, pK I 1, pK I 0]
  | 8 => [pK I 8, pK I 7, pK I 6, pK I 5, pK I 4, pK I 3, pK I 2, pK I 1, pK I 0]
  | 9 => [pK I 9, pK I 8, pK I 7, pK I 6, pK I 5, pK I 4, pK I 3, pK I 2, pK I 1, pK I 0]
  | 10 => [pK I 10, pK I 9, pK I 8, pK I 7, pK I 6, pK I 5, pK I 4, pK I 3, pK I 2, pK I 1, pK I 0]
  | 11 => [pK I 11, pK I 10, pK I 9, pK I 8, pK I 7, pK I 6, pK I 5, pK I 4, pK I 3, pK I 2, pK I 1, pK I 0]
  | 12 => [pK I 12, pK I 11, pK I 10, pK I 9, pK I 8, pK I 7, pK I 6, pK I 5, pK I 4, pK I 3, pK I 2, pK I 1, pK I 0]
  | 13 => [pK I 13, pK I 12, pK I 11, pK I 10, pK I 9, pK I 8, pK I 7, pK I 6, pK I 5, pK I 4, pK I 3, pK I 2, pK I 1, pK I 0]
/-- Block `(n, g)` of the weight as stored. -/
def pW (I : Vec F S1x128 .i32) (S : Vec F S8x14 .f32) (O : Vec F S1024x128 .bf16) (Q : Vec F S1024x1792 .fp8e4m3) (n : Fin 8) (g : Fin 14) :
    View.Piece (Elt F) S1024x1792 .bf16 :=
  ⟨rQ n g, wB (128 * n.val) (slW n) (wfullB (BitVec.ofNat 32 (128 * g.val)) (iAt I) (oAt O))
    (S ((rS n g).emb (Shape.Idx.first (s := S1x1) (by decide)))) (qAt Q n g) (fun j => View.canon (kls I g) ((rK g).emb j))⟩

/-- All the weight's blocks, last stored first. -/
def wls (I : Vec F S1x128 .i32) (S : Vec F S8x14 .f32) (O : Vec F S1024x128 .bf16) (Q : Vec F S1024x1792 .fp8e4m3) :
    List (View.Piece (Elt F) S1024x1792 .bf16) :=
   [pW I S O Q 7 13, pW I S O Q 6 13, pW I S O Q 5 13, pW I S O Q 4 13, pW I S O Q 3 13, pW I S O Q 2 13, pW I S O Q 1 13, pW I S O Q 0 13,
    pW I S O Q 7 12, pW I S O Q 6 12, pW I S O Q 5 12, pW I S O Q 4 12, pW I S O Q 3 12, pW I S O Q 2 12, pW I S O Q 1 12, pW I S O Q 0 12,
    pW I S O Q 7 11, pW I S O Q 6 11, pW I S O Q 5 11, pW I S O Q 4 11, pW I S O Q 3 11, pW I S O Q 2 11, pW I S O Q 1 11, pW I S O Q 0 11,
    pW I S O Q 7 10, pW I S O Q 6 10, pW I S O Q 5 10, pW I S O Q 4 10, pW I S O Q 3 10, pW I S O Q 2 10, pW I S O Q 1 10, pW I S O Q 0 10,
    pW I S O Q 7 9, pW I S O Q 6 9, pW I S O Q 5 9, pW I S O Q 4 9, pW I S O Q 3 9, pW I S O Q 2 9, pW I S O Q 1 9, pW I S O Q 0 9,
    pW I S O Q 7 8, pW I S O Q 6 8, pW I S O Q 5 8, pW I S O Q 4 8, pW I S O Q 3 8, pW I S O Q 2 8, pW I S O Q 1 8, pW I S O Q 0 8,
    pW I S O Q 7 7, pW I S O Q 6 7, pW I S O Q 5 7, pW I S O Q 4 7, pW I S O Q 3 7, pW I S O Q 2 7, pW I S O Q 1 7, pW I S O Q 0 7,
    pW I S O Q 7 6, pW I S O Q 6 6, pW I S O Q 5 6, pW I S O Q 4 6, pW I S O Q 3 6, pW I S O Q 2 6, pW I S O Q 1 6, pW I S O Q 0 6,
    pW I S O Q 7 5, pW I S O Q 6 5, pW I S O Q 5 5, pW I S O Q 4 5, pW I S O Q 3 5, pW I S O Q 2 5, pW I S O Q 1 5, pW I S O Q 0 5,
    pW I S O Q 7 4, pW I S O Q 6 4, pW I S O Q 5 4, pW I S O Q 4 4, pW I S O Q 3 4, pW I S O Q 2 4, pW I S O Q 1 4, pW I S O Q 0 4,
    pW I S O Q 7 3, pW I S O Q 6 3, pW I S O Q 5 3, pW I S O Q 4 3, pW I S O Q 3 3, pW I S O Q 2 3, pW I S O Q 1 3, pW I S O Q 0 3,
    pW I S O Q 7 2, pW I S O Q 6 2, pW I S O Q 5 2, pW I S O Q 4 2, pW I S O Q 3 2, pW I S O Q 2 2, pW I S O Q 1 2, pW I S O Q 0 2,
    pW I S O Q 7 1, pW I S O Q 6 1, pW I S O Q 5 1, pW I S O Q 4 1, pW I S O Q 3 1, pW I S O Q 2 1, pW I S O Q 1 1, pW I S O Q 0 1,
    pW I S O Q 7 0, pW I S O Q 6 0, pW I S O Q 5 0, pW I S O Q 4 0, pW I S O Q 3 0, pW I S O Q 2 0, pW I S O Q 1 0, pW I S O Q 0 0]
/-- All the codes' blocks, last stored first; and the four strips of the scales and of the product. -/
def cls (K : Vec F S16x1792 .bf16) (X : Vec F S512x1792 .bf16) : List (View.Piece (Elt F) S512x1792 .fp8e4m3) :=
   [pC K X 3 13, pC K X 3 12, pC K X 3 11, pC K X 3 10, pC K X 3 9, pC K X 3 8, pC K X 3 7, pC K X 3 6, pC K X 3 5, pC K X 3 4, pC K X 3 3, pC K X 3 2, pC K X 3 1, pC K X 3 0,
    pC K X 2 13, pC K X 2 12, pC K X 2 11, pC K X 2 10, pC K X 2 9, pC K X 2 8, pC K X 2 7, pC K X 2 6, pC K X 2 5, pC K X 2 4, pC K X 2 3, pC K X 2 2, pC K X 2 1, pC K X 2 0,
    pC K X 1 13, pC K X 1 12, pC K X 1 11, pC K X 1 10, pC K X 1 9, pC K X 1 8, pC K X 1 7, pC K X 1 6, pC K X 1 5, pC K X 1 4, pC K X 1 3, pC K X 1 2, pC K X 1 1, pC K X 1 0,
    pC K X 0 13, pC K X 0 12, pC K X 0 11, pC K X 0 10, pC K X 0 9, pC K X 0 8, pC K X 0 7, pC K X 0 6, pC K X 0 5, pC K X 0 4, pC K X 0 3, pC K X 0 2, pC K X 0 1, pC K X 0 0]
def tls (K : Vec F S16x1792 .bf16) (X : Vec F S512x1792 .bf16) : List (View.Piece (Elt F) S512x14 .f32) :=
  [pT K X 3, pT K X 2, pT K X 1, pT K X 0]
def yls (K : Vec F S16x1792 .bf16) (X : Vec F S512x1792 .bf16) (W : Vec F S1024x1792 .bf16) : List (View.Piece (Elt F) S512x1024 .bf16) :=
  [pY K X W 3, pY K X W 2, pY K X W 1, pY K X W 0]

end Cert.KernelIdeal.Hand
end
-- ==== Proof.PiecesW.lean ====
/- What a point that prepares the weight stores into the scratch buffers: the flags and the weight. -/
module

public import proofs.«01_k».proof.Proof.Loads
public import proofs.«01_k».proof.Proof.Gen.KernelIdeal.Frame
public import Idealize.ShloMosaic.Lib.Pipeline.Value
public import Idealize.ShloMosaic.Lib.Pipeline.ValueKit

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.Sem Cert.KernelIdeal Cert.KernelIdeal.Gen

variable {F : FTy → Type} [FloatOps F]
variable (c : Dev nD) (i : grid0.Coords) (arg1 : Memref sig .tc .vmem S1x128 .i32) (harg1 : arg1.IsWhole) (arg2 : Memref sig .tc .smem S8x14 .f32) (harg2 : arg2.IsWhole) (arg3 : Memref sig .tc .vmem S1024x128 .bf16) (harg3 : arg3.IsWhole) (arg4 : Memref sig .tc .vmem S1024x1792 .fp8e4m3) (harg4 : arg4.IsWhole) (arg5 : Memref sig .tc .vmem S512x1792 .bf16) (harg5 : arg5.IsWhole) (arg6 : Memref sig .tc .vmem S512x1024 .bf16) (harg6 : arg6.IsWhole) (arg7 : Memref sig .tc .vmem S512x1792 .fp8e4m3) (harg7 : arg7.IsWhole) (arg8 : Memref sig .tc .vmem S512x14 .f32) (harg8 : arg8.IsWhole) (arg9 : Memref sig .tc .vmem S1024x1792 .bf16) (harg9 : arg9.IsWhole) (arg10 : Memref sig .tc .vmem S16x1792 .bf16) (harg10 : arg10.IsWhole) (arg11 : Memref sig .tc .vmem S512x1792 .bf16) (harg11 : arg11.IsWhole) (hc0 : cond0_0 i)
    (x0 : Vec F S1x128 .i32) (x1 : Vec F S8x14 .f32) (x2 : Vec F S1024x128 .bf16) (x3 : Vec F S1024x1792 .fp8e4m3) (x4 : Vec F S512x1792 .bf16)

/-- The weight's blocks. -/
theorem listS0_A : (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1 = wls x0 x1 x2 x3 := by
  unfold kernelRun0_A
  dsimp only
  sl_unfold_words
  simp only [View.readAt_eq_ld, harg1.read_unread, harg2.read_unread, harg3.read_unread, harg4.read_unread, harg5.read_unread, View.readCov_eq_canon']
  rfl

/-- The flags' blocks. -/
theorem listS1_A : (kernelRun0_A c i arg1 harg1 arg2 harg2 arg3 harg3 arg4 harg4 arg5 harg5 arg6 harg6 arg7 harg7 arg8 harg8 arg9 harg9 arg10 harg10 arg11 harg11 hc0 x0 x1 x2 x3 x4).2.2.2.2.1 = kls x0 13 := by
  unfold kernelRun0_A
  dsimp only
  sl_unfold_words
  simp only [View.readAt_eq_ld, harg1.read_unread, harg2.read_unread, harg3.read_unread, harg4.read_unread, harg5.read_unread, View.readCov_eq_canon']
  rfl

end Cert.KernelIdeal.Hand
end
-- ==== Proof.PiecesY.lean ====
/- What a point that prepares the weight stores into the product: the strips of Loads.lean, over the flags and the weight it has just stored. -/
module

public import proofs.«01_k».proof.Proof.PiecesW
public import proofs.«01_k».proof.Proof.Gen.KernelIdeal.Frame
public import Idealize.ShloMosaic.Lib.Pipeline.Value
public import Idealize.ShloMosaic.Lib.Pipeline.ValueKit

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.Sem Cert.KernelIdeal Cert.KernelIdeal.Gen

variable {F : FTy → Type} [FloatOps F]
variable (c : Dev nD) (i : grid0.Coords) (arg1 : Memref sig .tc .vmem S1x128 .i32) (harg1 : arg1.IsWhole) (arg2 : Memref sig .tc .smem S8x14 .f32) (harg2 : arg2.IsWhole) (arg3 : Memref sig .tc .vmem S1024x128 .bf16) (harg3 : arg3.IsWhole) (arg4 : Memref sig .tc .vmem S1024x1792 .fp8e4m3) (harg4 : arg4.IsWhole) (arg5 : Memref sig .tc .vmem S512x1792 .bf16) (harg5 : arg5.IsWhole) (arg6 : Memref sig .tc .vmem S512x1024 .bf16) (harg6 : arg6.IsWhole) (arg7 : Memref sig .tc .vmem S512x1792 .fp8e4m3) (harg7 : arg7.IsWhole) (arg8 : Memref sig .tc .vmem S512x14 .f32) (harg8 : arg8.IsWhole) (arg9 : Memref sig .tc .vmem S1024x1792 .bf16) (harg9 : arg9.IsWhole) (arg10 : Memref sig .tc .vmem S16x1792 .bf16) (harg10 : arg10.IsWhole) (arg11 : Memref sig .tc .vmem S512x1792 .bf16) (harg11 : arg11.IsWhole) (hc0 : cond0_0 i)
    (x0 : Vec F S1x128 .i32) (x1 : Vec F S8x14 .f32) (x2 : Vec F S1024x128 .bf16) (x3 : Vec F S1024x1792 .fp8e4m3) (x4 : Vec F S512x1792 .bf16)

/-- The product's strips. -/
theorem list5_A : (kernelRun0_A c i arg1 harg1 arg2 harg2 arg3 harg3 arg4 harg4 arg5 harg5 arg6 harg6 arg7 harg7 arg8 harg8 arg9 harg9 arg10 harg10 arg11 harg11 hc0 x0 x1 x2 x3 x4).1 = yls (View.canon (kls x0 13)) x4 (View.canon (wls x0 x1 x2 x3)) := by
  have hK := listS1_A c i arg1 harg1 arg2 harg2 arg3 harg3 arg4 harg4 arg5 harg5 arg6 harg6 arg7 harg7 arg8 harg8 arg9 harg9 arg10 harg10 arg11 harg11 hc0 x0 x1 x2 x3 x4
  have hW := listS0_A c i arg1 harg1 arg2 harg2 arg3 harg3 arg4 harg4 arg5 harg5 arg6 harg6 arg7 harg7 arg8 harg8 arg9 harg9 arg10 harg10 arg11 harg11 hc0 x0 x1 x2 x3 x4
  revert hW hK
  unfold kernelRun0_A
  dsimp only
  sl_unfold_words
  simp only [View.readAt_eq_ld, harg1.read_unread, harg2.read_unread, harg3.read_unread, harg4.read_unread, harg5.read_unread, View.readCov_eq_canon']
  intro hK hW
  rw [hW, hK]
  generalize View.canon (kls x0 13) = K
  generalize View.canon (wls x0 x1 x2 x3) = W
  rfl

end Cert.KernelIdeal.Hand
end
-- ==== Proof.PiecesA.lean ====
/- What a point that prepares the weight stores into the results: the blocks of Loads.lean, over the flags and the weight it has just stored. -/
module

public import proofs.«01_k».proof.Proof.PiecesW
public import proofs.«01_k».proof.Proof.Gen.KernelIdeal.Frame
public import Idealize.ShloMosaic.Lib.Pipeline.Value
public import Idealize.ShloMosaic.Lib.Pipeline.ValueKit

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.Sem Cert.KernelIdeal Cert.KernelIdeal.Gen

variable {F : FTy → Type} [FloatOps F]
variable (c : Dev nD) (i : grid0.Coords) (arg1 : Memref sig .tc .vmem S1x128 .i32) (harg1 : arg1.IsWhole) (arg2 : Memref sig .tc .smem S8x14 .f32) (harg2 : arg2.IsWhole) (arg3 : Memref sig .tc .vmem S1024x128 .bf16) (harg3 : arg3.IsWhole) (arg4 : Memref sig .tc .vmem S1024x1792 .fp8e4m3) (harg4 : arg4.IsWhole) (arg5 : Memref sig .tc .vmem S512x1792 .bf16) (harg5 : arg5.IsWhole) (arg6 : Memref sig .tc .vmem S512x1024 .bf16) (harg6 : arg6.IsWhole) (arg7 : Memref sig .tc .vmem S512x1792 .fp8e4m3) (harg7 : arg7.IsWhole) (arg8 : Memref sig .tc .vmem S512x14 .f32) (harg8 : arg8.IsWhole) (arg9 : Memref sig .tc .vmem S1024x1792 .bf16) (harg9 : arg9.IsWhole) (arg10 : Memref sig .tc .vmem S16x1792 .bf16) (harg10 : arg10.IsWhole) (arg11 : Memref sig .tc .vmem S512x1792 .bf16) (harg11 : arg11.IsWhole) (hc0 : cond0_0 i)
    (x0 : Vec F S1x128 .i32) (x1 : Vec F S8x14 .f32) (x2 : Vec F S1024x128 .bf16) (x3 : Vec F S1024x1792 .fp8e4m3) (x4 : Vec F S512x1792 .bf16)

/-- The codes' blocks. -/
theorem list6_A : (kernelRun0_A c i arg1 harg1 arg2 harg2 arg3 harg3 arg4 harg4 arg5 harg5 arg6 harg6 arg7 harg7 arg8 harg8 arg9 harg9 arg10 harg10 arg11 harg11 hc0 x0 x1 x2 x3 x4).2.1 = cls (View.canon (kls x0 13)) x4 := by
  have hK := listS1_A c i arg1 harg1 arg2 harg2 arg3 harg3 arg4 harg4 arg5 harg5 arg6 harg6 arg7 harg7 arg8 harg8 arg9 harg9 arg10 harg10 arg11 harg11 hc0 x0 x1 x2 x3 x4
  revert hK
  unfold kernelRun0_A
  dsimp only
  sl_unfold_words
  simp only [View.readAt_eq_ld, harg1.read_unread, harg2.read_unread, harg3.read_unread, harg4.read_unread, harg5.read_unread, View.readCov_eq_canon']
  intro hK
  rw [hK]
  generalize View.canon (kls x0 13) = K
  rfl

/-- The scales' strips. -/
theorem list7_A : (kernelRun0_A c i arg1 harg1 arg2 harg2 arg3 harg3 arg4 harg4 arg5 harg5 arg6 harg6 arg7 harg7 arg8 harg8 arg9 harg9 arg10 harg10 arg11 harg11 hc0 x0 x1 x2 x3 x4).2.2.1 = tls (View.canon (kls x0 13)) x4 := by
  have hK := listS1_A c i arg1 harg1 arg2 harg2 arg3 harg3 arg4 harg4 arg5 harg5 arg6 harg6 arg7 harg7 arg8 harg8 arg9 harg9 arg10 harg10 arg11 harg11 hc0 x0 x1 x2 x3 x4
  revert hK
  unfold kernelRun0_A
  dsimp only
  sl_unfold_words
  simp only [View.readAt_eq_ld, harg1.read_unread, harg2.read_unread, harg3.read_unread, harg4.read_unread, harg5.read_unread, View.readCov_eq_canon']
  intro hK
  rw [hK]
  generalize View.canon (kls x0 13) = K
  rfl

end Cert.KernelIdeal.Hand
end
-- ==== Proof.PiecesB.lean ====
/- What a point that finds the weight prepared stores: the program's pieces are the blocks of Loads.lean. -/
module

public import proofs.«01_k».proof.Proof.Loads
public import proofs.«01_k».proof.Proof.Gen.KernelIdeal.Frame
public import Idealize.ShloMosaic.Lib.Pipeline.Value
public import Idealize.ShloMosaic.Lib.Pipeline.ValueKit

@[expose] public section

set_option synthInstance.maxSize 4096
set_option maxRecDepth 16384

noncomputable section

namespace Cert.KernelIdeal.Hand

open Idealize.ShloMosaic Idealize.ShloMosaic.TcCoe Idealize.ShloMosaic.Tactic
open Idealize.SL Idealize.SL.Sem Cert.KernelIdeal Cert.KernelIdeal.Gen

variable {F : FTy → Type} [FloatOps F]
variable (c : Dev nD) (i : grid0.Coords) (arg1 : Memref sig .tc .vmem S1x128 .i32) (harg1 : arg1.IsWhole) (arg2 : Memref sig .tc .smem S8x14 .f32) (harg2 : arg2.IsWhole) (arg3 : Memref sig .tc .vmem S1024x128 .bf16) (harg3 : arg3.IsWhole) (arg4 : Memref sig .tc .vmem S1024x1792 .fp8e4m3) (harg4 : arg4.IsWhole) (arg5 : Memref sig .tc .vmem S512x1792 .bf16) (harg5 : arg5.IsWhole) (arg6 : Memref sig .tc .vmem S512x1024 .bf16) (harg6 : arg6.IsWhole) (arg7 : Memref sig .tc .vmem S512x1792 .fp8e4m3) (harg7 : arg7.IsWhole) (arg8 : Memref sig .tc .vmem S512x14 .f32) (harg8 : arg8.IsWhole) (arg9 : Memref sig .tc .vmem S1024x1792 .bf16) (harg9 : arg9.IsWhole) (arg10 : Memref sig .tc .vmem S16x1792 .bf16) (harg10 : arg10.IsWhole) (arg11 : Memref sig .tc .vmem S512x1792 .bf16) (harg11 : arg11.IsWhole) (hc0 : ¬cond0_0 i)
    (x0 : Vec F S1x128 .i32) (x1 : Vec F S8x14 .f32) (x2 : Vec F S1024x128 .bf16) (x3 : Vec F S1024x1792 .fp8e4m3) (x4 : Vec F S512x1792 .bf16) (xs0 : Vec F S1024x1792 .bf16) (xs1 : Vec F S16x1792 .bf16)

/-- The product's strips. -/
theorem list5_B : (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).1 = yls xs1 x4 xs0 := by
  unfold kernelRun0_B
  dsimp only
  sl_unfold_words
  simp only [View.readAt_eq_ld, harg10.read_unread, harg5.read_unread, harg9.read_unread, View.readCov_eq_canon']
  rfl

/-- The codes' blocks. -/
theorem list6_B : (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.1 = cls xs1 x4 := by
  unfold kernelRun0_B
  dsimp only
  sl_unfold_words
  simp only [View.readAt_eq_ld, harg10.read_unread, harg5.read_unread, harg9.read_unread, View.readCov_eq_canon']
  rfl

/-- The scales' strips. -/
theorem list7_B : (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.2.1 = tls xs1 x4 := by
  unfold kernelRun0_B
  dsimp only
  sl_unfold_words
  simp only [View.readAt_eq_ld, harg10.read_unread, harg5.read_unread, harg9.read_unread, View.readCov_eq_canon']
  rfl

end Cert.KernelIdeal.Hand
end
-- ==== Proof.PointValues.lean ====
/- What each of the kernel's buffers holds after a grid point. The first point prepares the flags and the weight; the others
   keep them, so after every point they are those of the outlier slots and of the weight's codes. -/
module

public import proofs.«01_k».proof.Proof.PiecesY
public import proofs.«01_k».proof.Proof.PiecesA
public import proofs.«01_k».proof.Proof.PiecesB

@[expose] public section

set_option synthInstance.maxSize 4096
set_option maxRecDepth 16384

noncomputable section

namespace Cert.KernelIdeal.Hand

open Idealize.ShloMosaic Idealize.ShloMosaic.TcCoe
open Idealize.SL Idealize.SL.Sem Cert.KernelIdeal Cert.KernelIdeal.Gen

variable {F : FTy → Type} [FloatOps F]

section PreparingPoint

variable (c : Dev nD) (i : grid0.Coords) (arg1 : Memref sig .tc .vmem S1x128 .i32) (harg1 : arg1.IsWhole) (arg2 : Memref sig .tc .smem S8x14 .f32) (harg2 : arg2.IsWhole) (arg3 : Memref sig .tc .vmem S1024x128 .bf16) (harg3 : arg3.IsWhole) (arg4 : Memref sig .tc .vmem S1024x1792 .fp8e4m3) (harg4 : arg4.IsWhole) (arg5 : Memref sig .tc .vmem S512x1792 .bf16) (harg5 : arg5.IsWhole) (arg6 : Memref sig .tc .vmem S512x1024 .bf16) (harg6 : arg6.IsWhole) (arg7 : Memref sig .tc .vmem S512x1792 .fp8e4m3) (harg7 : arg7.IsWhole) (arg8 : Memref sig .tc .vmem S512x14 .f32) (harg8 : arg8.IsWhole) (arg9 : Memref sig .tc .vmem S1024x1792 .bf16) (harg9 : arg9.IsWhole) (arg10 : Memref sig .tc .vmem S16x1792 .bf16) (harg10 : arg10.IsWhole) (arg11 : Memref sig .tc .vmem S512x1792 .bf16) (harg11 : arg11.IsWhole) (hc0 : cond0_0 i)
    (x0 : Vec F S1x128 .i32) (x1 : Vec F S8x14 .f32) (x2 : Vec F S1024x128 .bf16) (x3 : Vec F S1024x1792 .fp8e4m3) (x4 : Vec F S512x1792 .bf16)

theorem out0_A_5_eq : out0_A_5 c i arg1 harg1 arg2 harg2 arg3 harg3 arg4 harg4 arg5 harg5 arg6 harg6 arg7 harg7 arg8 harg8 arg9 harg9 arg10 harg10 arg11 harg11 hc0 x0 x1 x2 x3 x4 = View.canon (yls (View.canon (kls x0 13)) x4 (View.canon (wls x0 x1 x2 x3))) := by
  unfold out0_A_5
  rw [View.read_writes_junk_eq_canon, list5_A]

theorem out0_A_6_eq : out0_A_6 c i arg1 harg1 arg2 harg2 arg3 harg3 arg4 harg4 arg5 harg5 arg6 harg6 arg7 harg7 arg8 harg8 arg9 harg9 arg10 harg10 arg11 harg11 hc0 x0 x1 x2 x3 x4 = View.canon (cls (View.canon (kls x0 13)) x4) := by
  unfold out0_A_6
  rw [View.read_writes_junk_eq_canon, list6_A]

theorem out0_A_7_eq : out0_A_7 c i arg1 harg1 arg2 harg2 arg3 harg3 arg4 harg4 arg5 harg5 arg6 harg6 arg7 harg7 arg8 harg8 arg9 harg9 arg10 harg10 arg11 harg11 hc0 x0 x1 x2 x3 x4 = View.canon (tls (View.canon (kls x0 13)) x4) := by
  unfold out0_A_7
  rw [View.read_writes_junk_eq_canon, list7_A]

theorem sout0_A_0_eq : sout0_A_0 c i arg1 harg1 arg2 harg2 arg3 harg3 arg4 harg4 arg5 harg5 arg6 harg6 arg7 harg7 arg8 harg8 arg9 harg9 arg10 harg10 arg11 harg11 hc0 x0 x1 x2 x3 x4 = View.canon (wls x0 x1 x2 x3) := by
  unfold sout0_A_0
  rw [View.read_writes_junk_eq_canon, listS0_A]

theorem sout0_A_1_eq : sout0_A_1 c i arg1 harg1 arg2 harg2 arg3 harg3 arg4 harg4 arg5 harg5 arg6 harg6 arg7 harg7 arg8 harg8 arg9 harg9 arg10 harg10 arg11 harg11 hc0 x0 x1 x2 x3 x4 = View.canon (kls x0 13) := by
  unfold sout0_A_1
  rw [View.read_writes_junk_eq_canon, listS1_A]

end PreparingPoint

section OtherPoint

variable (c : Dev nD) (i : grid0.Coords) (arg1 : Memref sig .tc .vmem S1x128 .i32) (harg1 : arg1.IsWhole) (arg2 : Memref sig .tc .smem S8x14 .f32) (harg2 : arg2.IsWhole) (arg3 : Memref sig .tc .vmem S1024x128 .bf16) (harg3 : arg3.IsWhole) (arg4 : Memref sig .tc .vmem S1024x1792 .fp8e4m3) (harg4 : arg4.IsWhole) (arg5 : Memref sig .tc .vmem S512x1792 .bf16) (harg5 : arg5.IsWhole) (arg6 : Memref sig .tc .vmem S512x1024 .bf16) (harg6 : arg6.IsWhole) (arg7 : Memref sig .tc .vmem S512x1792 .fp8e4m3) (harg7 : arg7.IsWhole) (arg8 : Memref sig .tc .vmem S512x14 .f32) (harg8 : arg8.IsWhole) (arg9 : Memref sig .tc .vmem S1024x1792 .bf16) (harg9 : arg9.IsWhole) (arg10 : Memref sig .tc .vmem S16x1792 .bf16) (harg10 : arg10.IsWhole) (arg11 : Memref sig .tc .vmem S512x1792 .bf16) (harg11 : arg11.IsWhole) (hc0 : ¬cond0_0 i)
    (x0 : Vec F S1x128 .i32) (x1 : Vec F S8x14 .f32) (x2 : Vec F S1024x128 .bf16) (x3 : Vec F S1024x1792 .fp8e4m3) (x4 : Vec F S512x1792 .bf16) (xs0 : Vec F S1024x1792 .bf16) (xs1 : Vec F S16x1792 .bf16)

theorem out0_B_5_eq : out0_B_5 c i arg1 harg1 arg2 harg2 arg3 harg3 arg4 harg4 arg5 harg5 arg6 harg6 arg7 harg7 arg8 harg8 arg9 harg9 arg10 harg10 arg11 harg11 hc0 x0 x1 x2 x3 x4 xs0 xs1 = View.canon (yls xs1 x4 xs0) := by
  unfold out0_B_5
  rw [View.read_writes_junk_eq_canon, list5_B]

theorem out0_B_6_eq : out0_B_6 c i arg1 harg1 arg2 harg2 arg3 harg3 arg4 harg4 arg5 harg5 arg6 harg6 arg7 harg7 arg8 harg8 arg9 harg9 arg10 harg10 arg11 harg11 hc0 x0 x1 x2 x3 x4 xs0 xs1 = View.canon (cls xs1 x4) := by
  unfold out0_B_6
  rw [View.read_writes_junk_eq_canon, list6_B]

theorem out0_B_7_eq : out0_B_7 c i arg1 harg1 arg2 harg2 arg3 harg3 arg4 harg4 arg5 harg5 arg6 harg6 arg7 harg7 arg8 harg8 arg9 harg9 arg10 harg10 arg11 harg11 hc0 x0 x1 x2 x3 x4 xs0 xs1 = View.canon (tls xs1 x4) := by
  unfold out0_B_7
  rw [View.read_writes_junk_eq_canon, list7_B]

end OtherPoint

variable (m : (ℓ : Loc nD τ sig) → Buf (Elt F) ℓ)

/-- The flags and the weight as the first point prepares them. -/
def flagsBuf (c : Dev nD) (t : Fin cfg0.N) : Vec F S16x1792 .bf16 := View.canon (kls (iblk m c 0 t) 13)
def weightBuf (c : Dev nD) (t : Fin cfg0.N) : Vec F S1024x1792 .bf16 := View.canon (wls (iblk m c 0 t) (iblk m c 1 t) (iblk m c 2 t) (iblk m c 3 t))

/-- The first point. -/
theorem first (c : Dev nD) (t : Fin cfg0.N) (h0 : t.val % 6 = 0) :
    outsAt0 m c t.val t.isLt = (View.canon (yls (flagsBuf m c t) (iblk m c 4 t) (weightBuf m c t)), View.canon (cls (flagsBuf m c t) (iblk m c 4 t)),
      View.canon (tls (flagsBuf m c t) (iblk m c 4 t)), weightBuf m c t, flagsBuf m c t) := by
  rw [outsAt0_A m c t h0, out0_A_5_eq, out0_A_6_eq, out0_A_7_eq, sout0_A_0_eq, sout0_A_1_eq]
  rfl

/-- Any other point, over what the point before left. -/
theorem later (c : Dev nD) (n : ℕ) (hn : n + 1 < cfg0.N) (K : Vec F S16x1792 .bf16) (W : Vec F S1024x1792 .bf16)
    (hW : (outsAt0 m c n (Nat.lt_of_succ_lt hn)).2.2.2.1 = W) (hK : (outsAt0 m c n (Nat.lt_of_succ_lt hn)).2.2.2.2 = K) :
    outsAt0 m c (n + 1) hn = (View.canon (yls K (iblk m c 4 ⟨n + 1, hn⟩) W), View.canon (cls K (iblk m c 4 ⟨n + 1, hn⟩)),
      View.canon (tls K (iblk m c 4 ⟨n + 1, hn⟩)), W, K) := by
  have hN := lt_of_lt_of_eq hn (show cfg0.N = 6 from N_0)
  have h0 : ¬ (n + 1) % 6 = 0 := by omega
  have e := outsAt0_B m c ⟨n + 1, hn⟩ h0
  simp only [Nat.add_sub_cancel] at e
  rw [hW, hK, out0_B_5_eq, out0_B_6_eq, out0_B_7_eq] at e
  exact e

/-- After every point: the results' blocks over the first point's flags and weight. -/
theorem after (c : Dev nD) : (n : ℕ) → (hn : n < cfg0.N) → outsAt0 m c n hn =
      (View.canon (yls (flagsBuf m c t0_0) (iblk m c 4 ⟨n, hn⟩) (weightBuf m c t0_0)), View.canon (cls (flagsBuf m c t0_0) (iblk m c 4 ⟨n, hn⟩)),
      View.canon (tls (flagsBuf m c t0_0) (iblk m c 4 ⟨n, hn⟩)), weightBuf m c t0_0, flagsBuf m c t0_0)
  | 0, hn => first m c t0_0 (Nat.zero_mod _)
  | n + 1, hn => by
    have ih := after c n (Nat.lt_of_succ_lt hn)
    exact later m c n hn _ _ (by rw [ih]) (by rw [ih])

theorem fst_of {α β : Type} {z : α × β} {a : α} {b : β} (h : z = (a, b)) : z.1 = a := by rw [h]
theorem snd_of {α β : Type} {z : α × β} {a : α} {b : β} (h : z = (a, b)) : z.2 = b := by rw [h]

/-- The three results' blocks after a point. -/
theorem after_y (c : Dev nD) (n : ℕ) (hn : n < cfg0.N) :
    (outsAt0 m c n hn).1 = View.canon (yls (flagsBuf m c t0_0) (iblk m c 4 ⟨n, hn⟩) (weightBuf m c t0_0)) := fst_of (after m c n hn)
theorem after_codes (c : Dev nD) (n : ℕ) (hn : n < cfg0.N) :
    (outsAt0 m c n hn).2.1 = View.canon (cls (flagsBuf m c t0_0) (iblk m c 4 ⟨n, hn⟩)) := fst_of (snd_of (after m c n hn))
theorem after_scales (c : Dev nD) (n : ℕ) (hn : n < cfg0.N) :
    (outsAt0 m c n hn).2.2.1 = View.canon (tls (flagsBuf m c t0_0) (iblk m c 4 ⟨n, hn⟩)) := fst_of (snd_of (snd_of (after m c n hn)))

end Cert.KernelIdeal.Hand
end
-- ==== Proof.Scalar.lean ====
/- The power of two of one block of 128 activations, as scalars over the extended reals: the kernel reads it off the
   word of the magnitude (`kInv`, `kScale`), the reference states it as a floor of a logarithm (`expo`).
   `kInv_eq` and `kScale_eq` say the two agree at every magnitude that is not negative. -/
module

public import Idealize.ShloMosaic.PureOps.Ideal
public import Idealize.ShloMosaic.PureOps.Reduce
public import Mathlib.Tactic.NormNum
public import Mathlib.Tactic.Linarith
public import Mathlib.Tactic.FieldSimp
public import Mathlib.Tactic.Positivity

@[expose] public section

noncomputable section

namespace Cert.Proof

open Idealize.ShloMosaic

/-- The magnitude of a block: the largest absolute value of its 128 entries. -/
def mag (f : Fin 128 → EReal) : EReal :=
  Finset.univ.fold max (Ideal.ofBits .bf16 0xFF80#16) fun k => max (f k) (-(f k))

/-- What exponent field `j` offers: its word `128 · j`, where the magnitude reaches that word read as a float. -/
def candF (a : EReal) (j : Fin 256) : BitVec 32 :=
  Scalar.select (Ideal.cmp .oge a (Ideal.ofBits .f32 (IntOp.shli .vector (IntOp.shli .vector (BitVec.ofNat 32 j.val) 7#32) 16#32)))
    (IntOp.shli .vector (BitVec.ofNat 32 j.val) 7#32) 0#32

/-- The largest field reached. -/
def fieldOf (a : EReal) : BitVec 32 := Finset.univ.fold IntOp.maxsi 2147483648#32 (candF a)

/-- What fraction `k` offers under field `f`: the word `f + k`, where the magnitude reaches it. -/
def candW (a : EReal) (f : BitVec 32) (k : Fin 128) : BitVec 32 :=
  Scalar.select (Ideal.cmp .oge a (Ideal.ofBits .f32 (IntOp.shli .vector (IntOp.addi f (BitVec.ofNat 32 k.val)) 16#32)))
    (IntOp.addi f (BitVec.ofNat 32 k.val)) 0#32

/-- The magnitude's word: the largest one reached. -/
def wordOf (a : EReal) : BitVec 32 := Finset.univ.fold IntOp.maxsi 2147483648#32 (candW a (fieldOf a))

/-- The word with a quarter of its last exponent step added. -/
def rounded (a : EReal) : BitVec 32 := IntOp.addi (wordOf a) 32#32

/-- The bits of the reciprocal scale. -/
def invBits (b : BitVec 32) : BitVec 32 :=
  Scalar.select (IntOp.andi (IntOp.cmpi .sge b 1280#32) (IntOp.cmpi .slt b 32672#32))
    (IntOp.subi 33536#32 (IntOp.andi b 32640#32)) 16256#32

/-- The kernel's reciprocal scale. -/
def kInv (a : EReal) : EReal := Ideal.ofBits .f32 (IntOp.shli .vector (invBits (rounded a)) 16#32)

/-- The kernel's scale. -/
def kScale (a : EReal) : EReal := Ideal.ofBits .f32 (IntOp.shli .vector (IntOp.subi 32512#32 (invBits (rounded a))) 16#32)

/-- The reference's exponent. -/
def expo (a : EReal) : EReal :=
  Scalar.select
    (IntOp.ori (Ideal.cmp .olt (Ideal.div a (Ideal.ofBits .f32 0x43E00000#32)) (Ideal.ofBits .f32 0x00800000#32))
      (Ideal.cmp .oeq (Ideal.div a (Ideal.ofBits .f32 0x43E00000#32)) (Ideal.ofBits .f32 0x7F800000#32)))
    (Ideal.ofBits .f32 0x00000000#32)
    (min (Ideal.liftRound Int.floor (Ideal.div (Ideal.log (Ideal.div a (Ideal.ofBits .f32 0x43E00000#32)))
        (Ideal.log (Ideal.ofBits .f32 0x40000000#32))) + Ideal.ofBits .f32 0x3F800000#32)
      (Ideal.ofBits .f32 0x42F00000#32))

/-! ## Words as numbers -/

/-- A positive normal word whose significand has no fraction is a power of two. -/
theorem ofBits_normal (b : BitVec 32) (k fr : ℕ) (hs : (b.extractLsb' 31 1 == 1#1) = false)
    (he : (b.extractLsb' 23 8).toNat = k) (hf : (b.extractLsb' 0 23).toNat = fr) (h1 : 1 ≤ k) (h2 : k ≤ 254) :
    Ideal.ofBits .f32 b = (((2 ^ 23 + fr : ℕ) * (2 : ℝ) ^ ((k : ℤ) - 127 - 23) : ℝ) : EReal) := by
  unfold Ideal.ofBits Ideal.ieee
  simp only [hf]
  have e1 : (BitVec.extractLsb' 23 8 b).toNat = k := he
  have e2 : (BitVec.extractLsb' (8 + 23) 1 b == 1#1) = false := hs
  rw [e1, e2]
  rw [if_neg (by omega), if_neg (by omega)]
  norm_num

theorem ofBits_pow (b : BitVec 32) (k : ℕ) (hs : (b.extractLsb' 31 1 == 1#1) = false)
    (he : (b.extractLsb' 23 8).toNat = k) (hf : (b.extractLsb' 0 23).toNat = 0) (h1 : 1 ≤ k) (h2 : k ≤ 254) :
    Ideal.ofBits .f32 b = (((2 : ℝ) ^ ((k : ℤ) - 127) : ℝ) : EReal) := by
  rw [ofBits_normal b k 0 hs he hf h1 h2]
  refine congrArg (fun x : ℝ => (x : EReal)) ?_
  rw [zpow_sub₀ (by norm_num : (2:ℝ) ≠ 0) ((k : ℤ) - 127) 23]
  norm_num
  ring

theorem lit448 : Ideal.ofBits .f32 0x43E00000#32 = ((448 : ℝ) : EReal) := by
  rw [ofBits_normal _ 135 6291456 (by decide) (by decide) (by decide) (by omega) (by omega)]; norm_num
theorem litTiny : Ideal.ofBits .f32 0x00800000#32 = (((2 : ℝ) ^ (-126 : ℤ) : ℝ) : EReal) := by
  rw [ofBits_pow _ 1 (by decide) (by decide) (by decide) (by omega) (by omega)]; norm_num
theorem litTwo : Ideal.ofBits .f32 0x40000000#32 = ((2 : ℝ) : EReal) := by
  rw [ofBits_pow _ 128 (by decide) (by decide) (by decide) (by omega) (by omega)]; norm_num
theorem litOne : Ideal.ofBits .f32 0x3F800000#32 = ((1 : ℝ) : EReal) := by
  rw [ofBits_pow _ 127 (by decide) (by decide) (by decide) (by omega) (by omega)]; norm_num
theorem lit120 : Ideal.ofBits .f32 0x42F00000#32 = ((120 : ℝ) : EReal) := by
  rw [ofBits_normal _ 133 7340032 (by decide) (by decide) (by decide) (by omega) (by omega)]; norm_num
theorem litZero : Ideal.ofBits .f32 0x00000000#32 = ((0 : ℝ) : EReal) := by
  simp [Ideal.ofBits, Ideal.ieee]
theorem litInf : Ideal.ofBits .f32 0x7F800000#32 = (⊤ : EReal) := by
  unfold Ideal.ofBits Ideal.ieee
  have e1 : (BitVec.extractLsb' 23 8 0x7F800000#32).toNat = 255 := by decide
  have e2 : (BitVec.extractLsb' (8 + 23) 1 0x7F800000#32 == 1#1) = false := by decide
  have e3 : (BitVec.extractLsb' 0 23 0x7F800000#32).toNat = 0 := by decide
  simp only [e1, e2, e3]
  norm_num
theorem litBot : Ideal.ofBits .bf16 0xFF80#16 = (⊥ : EReal) := by
  unfold Ideal.ofBits Ideal.ieee
  have e1 : (BitVec.extractLsb' 7 8 0xFF80#16).toNat = 255 := by decide
  have e2 : (BitVec.extractLsb' (8 + 7) 1 0xFF80#16 == 1#1) = true := by decide
  have e3 : (BitVec.extractLsb' 0 7 0xFF80#16).toNat = 0 := by decide
  simp only [e1, e2, e3]
  norm_num

/-- The word `128 · f + k`, under its bits: sign 0, exponent `f`, fraction `k`. -/
theorem word_bits (f k : ℕ) (hf : f ≤ 255) (hk : k < 128) :
    ((IntOp.shli .vector (BitVec.ofNat 32 (128 * f + k)) 16#32).extractLsb' 31 1 == 1#1) = false
    ∧ ((IntOp.shli .vector (BitVec.ofNat 32 (128 * f + k)) 16#32).extractLsb' 23 8).toNat = f
    ∧ ((IntOp.shli .vector (BitVec.ofNat 32 (128 * f + k)) 16#32).extractLsb' 0 23).toNat = 65536 * k := by
  have e : IntOp.shli .vector (BitVec.ofNat 32 (128 * f + k)) 16#32 = BitVec.ofNat 32 (65536 * (128 * f + k)) := by
    apply BitVec.eq_of_toNat_eq
    simp [IntOp.shli, Nat.shiftLeft_eq]
    omega
  rw [e]
  refine ⟨?_, ?_, ?_⟩
  · rw [beq_eq_false_iff_ne]
    intro h
    have := congrArg BitVec.toNat h
    simp [BitVec.extractLsb'_toNat, Nat.shiftRight_eq_div_pow] at this
    omega
  · simp [BitVec.extractLsb'_toNat, Nat.shiftRight_eq_div_pow]
    omega
  · simp [BitVec.extractLsb'_toNat, Nat.shiftRight_eq_div_pow]
    omega

/-- The word `128 · f + k` read as a float, for a normal `f`. -/
theorem word_val (f k : ℕ) (h1 : 1 ≤ f) (hf : f ≤ 254) (hk : k < 128) :
    Ideal.ofBits .f32 (IntOp.shli .vector (BitVec.ofNat 32 (128 * f + k)) 16#32)
      = (((128 + k : ℝ) * (2 : ℝ) ^ ((f : ℤ) - 134) : ℝ) : EReal) := by
  obtain ⟨b1, b2, b3⟩ := word_bits f k (by omega) hk
  rw [ofBits_normal _ f (65536 * k) b1 b2 b3 h1 hf]
  refine congrArg (fun x : ℝ => (x : EReal)) ?_
  have e : (f : ℤ) - 127 - 23 = ((f : ℤ) - 134) + (-16) := by omega
  have c : (2 : ℝ) ^ (-16 : ℤ) * 65536 = 1 := by norm_num
  rw [e, zpow_add₀ (by norm_num : (2:ℝ) ≠ 0)]
  push_cast
  linear_combination ((128 + k : ℝ) * (2 : ℝ) ^ ((f : ℤ) - 134)) * c

/-! ## The largest offer -/

theorem maxsi_toInt (x y : BitVec 32) : (IntOp.maxsi x y).toInt = max x.toInt y.toInt := by
  unfold IntOp.maxsi
  by_cases h : y.slt x
  · rw [if_pos h]; rw [BitVec.slt_iff_toInt_lt] at h; omega
  · rw [if_neg h]; rw [BitVec.slt_iff_toInt_lt] at h; omega

theorem maxsi_or (x y : BitVec 32) : IntOp.maxsi x y = x ∨ IntOp.maxsi x y = y := by
  unfold IntOp.maxsi; by_cases h : y.slt x <;> simp [h]

/-- The fold of the signed maximum is one of the folded words and no folded word is above it. -/
theorem fold_maxsi {ι : Type} [DecidableEq ι] (s : Finset ι) (b : BitVec 32) (f : ι → BitVec 32) :
    (s.fold IntOp.maxsi b f = b ∨ ∃ j ∈ s, s.fold IntOp.maxsi b f = f j)
      ∧ ∀ j ∈ s, (f j).toInt ≤ (s.fold IntOp.maxsi b f).toInt := by
  induction s using Finset.induction_on with
  | empty => simp
  | insert a s ha ih =>
    rw [Finset.fold_insert ha]
    obtain ⟨ih1, ih2⟩ := ih
    refine ⟨?_, ?_⟩
    · rcases maxsi_or (f a) (s.fold IntOp.maxsi b f) with h | h
      · exact Or.inr ⟨a, by simp, h⟩
      · rcases ih1 with h1 | ⟨j, hj, h1⟩
        · exact Or.inl (h.trans h1)
        · exact Or.inr ⟨j, by simp [hj], h.trans h1⟩
    · intro j hj
      rw [maxsi_toInt]
      rcases Finset.mem_insert.mp hj with rfl | hj
      · exact le_max_left _ _
      · exact (ih2 j hj).trans (le_max_right _ _)

theorem select_ofBool {α : Type} (p : Bool) (x y : α) : Scalar.select (BitVec.ofBool p) x y = if p then x else y := by
  cases p <;> rfl

theorem toInt_small (n : ℕ) (h : n < 2147483648) : (BitVec.ofNat 32 n).toInt = n := by
  rw [BitVec.toInt_eq_toNat_of_lt]
  · simp; omega
  · simp; omega

/-- A table of increasing words, from 0 on: the largest offer is that of the last entry reached, if the first one is. -/
theorem table {N : ℕ} [NeZero N] (v : Fin N → BitVec 32) (p : Fin N → Prop) [DecidablePred p] (h0 : ∀ i, 0 ≤ (v i).toInt)
    (hm : ∀ i j, (v i).toInt ≤ (v j).toInt → i ≤ j) (hp : p 0) : ∃ n, p n
      ∧ Finset.univ.fold IntOp.maxsi 2147483648#32 (fun j => if p j then v j else 0#32) = v n ∧ ∀ j, p j → j ≤ n := by
  obtain ⟨h1, h2⟩ := fold_maxsi Finset.univ 2147483648#32 (fun j => if p j then v j else 0#32)
  generalize Finset.univ.fold IntOp.maxsi 2147483648#32 (fun j => if p j then v j else 0#32) = w at h1 h2 ⊢
  have hle : ∀ j, p j → (v j).toInt ≤ w.toInt := fun j hj => by
    have := h2 j (Finset.mem_univ _)
    rwa [if_pos hj] at this
  rcases h1 with h1 | ⟨j, -, h1⟩
  · exfalso
    have a1 := hle 0 hp
    have a2 := h0 0
    rw [h1] at a1
    have e : (2147483648#32 : BitVec 32).toInt = -2147483648 := by decide
    omega
  · by_cases hj : p j
    · rw [if_pos hj] at h1
      exact ⟨j, hj, h1, fun i hi => hm i j (h1 ▸ hle i hi)⟩
    · rw [if_neg hj] at h1
      have a1 := hle 0 hp
      have a2 := h0 0
      have e : (0#32 : BitVec 32).toInt = 0 := by decide
      have hv : w = v 0 := by
        rw [h1]
        apply BitVec.eq_of_toInt_eq
        rw [h1] at a1
        omega
      exact ⟨0, hp, hv, fun i hi => hm i 0 (hv ▸ hle i hi)⟩

theorem field_word (j : Fin 256) : IntOp.shli .vector (BitVec.ofNat 32 j.val) 7#32 = BitVec.ofNat 32 (128 * j.val) := by
  revert j; decide +kernel

theorem word_sum (m k : ℕ) : IntOp.addi (BitVec.ofNat 32 m) (BitVec.ofNat 32 k) = BitVec.ofNat 32 (m + k) := by
  simp [IntOp.addi, BitVec.ofNat_add]

/-- The float of a word. -/
def val (m : ℕ) : EReal := Ideal.ofBits .f32 (IntOp.shli .vector (BitVec.ofNat 32 m) 16#32)

theorem val_zero : val (128 * 0) = 0 := by
  have e : IntOp.shli .vector (BitVec.ofNat 32 (128 * 0)) 16#32 = 0x00000000#32 := by decide
  unfold val; rw [e, litZero]; rfl
theorem val_inf : val (128 * 255) = ⊤ := by
  have e : IntOp.shli .vector (BitVec.ofNat 32 (128 * 255)) 16#32 = 0x7F800000#32 := by decide
  unfold val; rw [e, litInf]

/-- The word found: its field is the largest one reached, and under it its fraction is. -/
theorem wordOf_spec (a : EReal) (h0 : 0 ≤ a) : ∃ (f : Fin 256) (k : Fin 128), wordOf a = BitVec.ofNat 32 (128 * f.val + k.val)
    ∧ val (128 * f.val) ≤ a ∧ (∀ j : Fin 256, val (128 * j.val) ≤ a → j ≤ f)
    ∧ val (128 * f.val + k.val) ≤ a ∧ ∀ j : Fin 128, val (128 * f.val + j.val) ≤ a → j ≤ k := by
  have hF : candF a = fun j : Fin 256 => if val (128 * j.val) ≤ a then BitVec.ofNat 32 (128 * j.val) else 0#32 := by
    funext j
    unfold candF Ideal.cmp
    rw [select_ofBool, field_word]
    simp only [val, ge_iff_le, decide_eq_true_eq]
    congr
  obtain ⟨f, hf, ef, mf⟩ := table (fun j : Fin 256 => BitVec.ofNat 32 (128 * j.val)) (fun j => val (128 * j.val) ≤ a)
    (fun i => by rw [toInt_small _ (by omega)]; omega)
    (fun i j h => by rw [toInt_small _ (by omega), toInt_small _ (by omega)] at h; exact Fin.le_def.mpr (by omega))
    (by show val (128 * 0) ≤ a; rw [val_zero]; exact h0)
  have hW : candW a (fieldOf a) = fun k : Fin 128 => if val (128 * f.val + k.val) ≤ a then BitVec.ofNat 32 (128 * f.val + k.val) else 0#32 := by
    funext k
    unfold candW Ideal.cmp fieldOf
    rw [hF, ef, select_ofBool, word_sum]
    simp only [val, ge_iff_le, decide_eq_true_eq]
    congr
  obtain ⟨k, hk, ek, mk⟩ := table (fun k : Fin 128 => BitVec.ofNat 32 (128 * f.val + k.val)) (fun k => val (128 * f.val + k.val) ≤ a)
    (fun i => by rw [toInt_small _ (by omega)]; omega)
    (fun i j h => by rw [toInt_small _ (by omega), toInt_small _ (by omega)] at h; exact Fin.le_def.mpr (by omega))
    (by show val (128 * f.val + 0) ≤ a; exact hf)
  exact ⟨f, k, by unfold wordOf; rw [hW, ek], hf, mf, hk, mk⟩

theorem rounded_low : ∀ (f : Fin 255) (k : Fin 128), k.val < 96 →
    invBits (IntOp.addi (BitVec.ofNat 32 (128 * f.val + k.val)) 32#32) = invBits (IntOp.shli .vector (BitVec.ofNat 32 f.val) 7#32) := by
  decide +kernel
theorem rounded_high : ∀ (f : Fin 255) (k : Fin 128), 96 ≤ k.val →
    invBits (IntOp.addi (BitVec.ofNat 32 (128 * f.val + k.val)) 32#32) = invBits (IntOp.shli .vector (BitVec.ofNat 32 (f.val + 1)) 7#32) := by
  decide +kernel
theorem rounded_inf : ∀ k : Fin 128, invBits (IntOp.addi (BitVec.ofNat 32 (128 * 255 + k.val)) 32#32) = 16256#32 := by
  decide +kernel

/-- A finite magnitude's exponent field after the addition: the largest `n` with `448 · 2^(n - 136)` at most the magnitude, where that is 10 or more. -/
theorem rounded_spec (r : ℝ) (h0 : 0 ≤ r) : ∃ n : Fin 256,
    invBits (rounded (r : EReal)) = invBits (IntOp.shli .vector (BitVec.ofNat 32 n.val) 7#32)
      ∧ (n.val < 10 → r < 448 * (2 : ℝ) ^ (-126 : ℤ))
      ∧ (10 ≤ n.val → 448 * (2 : ℝ) ^ ((n.val : ℤ) - 136) ≤ r)
      ∧ (10 ≤ n.val → n.val < 255 → r < 448 * (2 : ℝ) ^ ((n.val : ℤ) - 135)) := by
  obtain ⟨f, k, hw, hf, mf, hk, mk⟩ := wordOf_spec (r : EReal) (by exact_mod_cast h0)
  have h254 : f.val ≤ 254 := by
    by_contra hc
    have e : f.val = 255 := by omega
    rw [e, val_inf] at hf
    exact absurd (le_antisymm le_top hf) (EReal.coe_ne_top r)
  have hp : ∀ z : ℤ, (0 : ℝ) < 2 ^ z := fun z => by positivity
  -- below the next field
  have up : f.val ≤ 253 → r < 256 * (2 : ℝ) ^ ((f.val : ℤ) - 134) := by
    intro h
    by_contra hc
    have := mf ⟨f.val + 1, by omega⟩ (by
      have e := word_val (f.val + 1) 0 (by omega) (by omega) (by omega)
      show val (128 * (f.val + 1) + 0) ≤ _
      unfold val
      rw [e]
      have z : (((f.val + 1 : ℕ) : ℤ) - 134) = ((f.val : ℤ) - 134) + 1 := by push_cast; ring
      rw [z, zpow_add_one₀ (by norm_num : (2:ℝ) ≠ 0)]
      have := not_lt.mp hc
      refine EReal.coe_le_coe_iff.mpr ?_
      push_cast
      linarith)
    exact absurd (Fin.le_def.mp this) (by simp)
  have two : ∀ z : ℤ, (2 : ℝ) ^ (z + 1) = 2 * (2 : ℝ) ^ z := fun z => by rw [zpow_add_one₀ (by norm_num : (2:ℝ) ≠ 0)]; ring
  have c : ∀ z y : ℤ, z = y + 1 → (2 : ℝ) ^ z = 2 * (2 : ℝ) ^ y := fun z y h => by rw [h, two]
  unfold rounded
  rw [hw]
  by_cases h9 : f.val < 9
  · -- too small
    have hr : r < 448 * (2 : ℝ) ^ (-126 : ℤ) := by
      have hu := up (by omega)
      have : (2 : ℝ) ^ ((f.val : ℤ) - 134) ≤ (2 : ℝ) ^ (-126 : ℤ) := zpow_le_zpow_right₀ (by norm_num) (by omega)
      have := hp (-126)
      linarith
    by_cases h96 : k.val < 96
    · exact ⟨f, rounded_low ⟨f.val, by omega⟩ k h96, fun _ => hr, fun h => absurd h (by omega), fun h => absurd h (by omega)⟩
    · exact ⟨⟨f.val + 1, by omega⟩, rounded_high ⟨f.val, by omega⟩ k (not_lt.mp h96), fun _ => hr,
        fun h => absurd h (by simp; omega), fun h => absurd h (by simp; omega)⟩
  · have lo : (128 + k.val : ℝ) * (2 : ℝ) ^ ((f.val : ℤ) - 134) ≤ r := by
      have := hk
      unfold val at this
      rw [word_val f.val k.val (by omega) h254 k.isLt] at this
      exact_mod_cast this
    by_cases h96 : k.val < 96
    · have hi : r < 224 * (2 : ℝ) ^ ((f.val : ℤ) - 134) := by
        by_contra hc
        have := mk ⟨96, by omega⟩ (by
          show val (128 * f.val + 96) ≤ _
          unfold val
          rw [word_val f.val 96 (by omega) h254 (by omega)]
          refine EReal.coe_le_coe_iff.mpr ?_
          have := not_lt.mp hc
          push_cast
          linarith)
        exact absurd (Fin.le_def.mp this) (by simp; omega)
      have e1 := c ((f.val : ℤ) - 134) ((f.val : ℤ) - 135) (by ring)
      have e2 := c ((f.val : ℤ) - 135) ((f.val : ℤ) - 136) (by ring)
      refine ⟨f, rounded_low ⟨f.val, by omega⟩ k h96, fun h => ?_, fun _ => ?_, fun _ _ => ?_⟩
      · have e : f.val = 9 := by omega
        rw [e] at hi
        have z := c (-125) (-126) (by norm_num)
        norm_num at hi ⊢
        linarith
      · have hk0 : (0 : ℝ) ≤ k.val := Nat.cast_nonneg _
        have hm := mul_nonneg hk0 (hp ((f.val : ℤ) - 134)).le
        have h6 := hp ((f.val : ℤ) - 136)
        rw [add_mul] at lo
        linarith
      · rw [e1] at hi; linarith
    · have hk' : (96 : ℝ) ≤ k.val := by exact_mod_cast not_lt.mp h96
      have e1 := c ((f.val : ℤ) - 134) ((f.val : ℤ) - 135) (by ring)
      refine ⟨⟨f.val + 1, by omega⟩, rounded_high ⟨f.val, by omega⟩ k (not_lt.mp h96), fun h => absurd h (by simp; omega), fun _ => ?_, fun _ h255 => ?_⟩
      · have z : (((⟨f.val + 1, by omega⟩ : Fin 256).val : ℤ) - 136) = (f.val : ℤ) - 135 := by push_cast; ring
        rw [z]
        have := mul_le_mul_of_nonneg_right hk' (hp ((f.val : ℤ) - 134)).le
        linarith
      · have z : (((⟨f.val + 1, by omega⟩ : Fin 256).val : ℤ) - 135) = (f.val : ℤ) - 134 := by push_cast; ring
        rw [z]
        have := up (by simp at h255; omega)
        have := hp ((f.val : ℤ) - 134)
        linarith

/-! ## The two sides -/

theorem inv_words : ∀ n : Fin 256, 10 ≤ n.val →
    ((IntOp.shli .vector (invBits (IntOp.shli .vector (BitVec.ofNat 32 n.val) 7#32)) 16#32).extractLsb' 31 1 == 1#1) = false
    ∧ ((IntOp.shli .vector (invBits (IntOp.shli .vector (BitVec.ofNat 32 n.val) 7#32)) 16#32).extractLsb' 23 8).toNat = 262 - n.val
    ∧ ((IntOp.shli .vector (invBits (IntOp.shli .vector (BitVec.ofNat 32 n.val) 7#32)) 16#32).extractLsb' 0 23).toNat = 0 := by
  decide +kernel

theorem scale_words : ∀ n : Fin 256, 10 ≤ n.val →
    ((IntOp.shli .vector (IntOp.subi 32512#32 (invBits (IntOp.shli .vector (BitVec.ofNat 32 n.val) 7#32))) 16#32).extractLsb' 31 1 == 1#1) = false
    ∧ ((IntOp.shli .vector (IntOp.subi 32512#32 (invBits (IntOp.shli .vector (BitVec.ofNat 32 n.val) 7#32))) 16#32).extractLsb' 23 8).toNat = n.val - 8
    ∧ ((IntOp.shli .vector (IntOp.subi 32512#32 (invBits (IntOp.shli .vector (BitVec.ofNat 32 n.val) 7#32))) 16#32).extractLsb' 0 23).toNat = 0 := by
  decide +kernel

theorem low_words : ∀ n : Fin 256, n.val < 10 → invBits (IntOp.shli .vector (BitVec.ofNat 32 n.val) 7#32) = 16256#32 := by
  decide +kernel

theorem div448 (r : ℝ) : Ideal.div (r : EReal) (Ideal.ofBits .f32 0x43E00000#32) = ((r / 448 : ℝ) : EReal) := by
  rw [lit448, Ideal.div_coe (by norm_num), ← EReal.coe_mul]
  congr 1; ring

theorem expo_top : expo ⊤ = 0 := by
  have hd : Ideal.div ⊤ (Ideal.ofBits .f32 0x43E00000#32) = ⊤ := by
    rw [lit448, Ideal.div_coe (by norm_num), EReal.top_mul_coe_of_pos (by norm_num)]
  unfold expo
  rw [hd, litInf, litZero]
  simp [Ideal.cmp, IntOp.ori, Scalar.select]

theorem expo_low (r : ℝ) (hr : r < 448 * (2 : ℝ) ^ (-126 : ℤ)) : expo (r : EReal) = 0 := by
  unfold expo
  rw [div448, litTiny, litZero]
  have : r / 448 < (2 : ℝ) ^ (-126 : ℤ) := by rw [div_lt_iff₀ (by norm_num)]; linarith
  have h : decide (((r / 448 : ℝ) : EReal) < (((2 : ℝ) ^ (-126 : ℤ) : ℝ) : EReal)) = true := by
    simpa only [decide_eq_true_eq, EReal.coe_lt_coe_iff] using this
  simp only [Ideal.cmp, h]
  generalize decide (((r / 448 : ℝ) : EReal) = Ideal.ofBits .f32 0x7F800000#32) = q
  cases q <;> rfl

theorem expo_high (r : ℝ) (n : ℕ) (hn : 10 ≤ n) (hn' : n ≤ 255) (hlo : 448 * (2 : ℝ) ^ ((n : ℤ) - 136) ≤ r)
    (hhi : n < 255 → r < 448 * (2 : ℝ) ^ ((n : ℤ) - 135)) : expo (r : EReal) = (((n : ℝ) - 135 : ℝ) : EReal) := by
  unfold expo
  rw [div448, litTiny, litInf, litTwo, litOne, lit120]
  have hv : (2 : ℝ) ^ ((n : ℤ) - 136) ≤ r / 448 := by rw [le_div_iff₀ (by norm_num)]; linarith
  have hpos : 0 < r / 448 := lt_of_lt_of_le (by positivity) hv
  have hl2 : 0 < Real.log 2 := Real.log_pos (by norm_num)
  have htiny : (2 : ℝ) ^ (-126 : ℤ) ≤ r / 448 := le_trans (zpow_le_zpow_right₀ (by norm_num) (by omega)) hv
  have h1 : decide (((r / 448 : ℝ) : EReal) < (((2 : ℝ) ^ (-126 : ℤ) : ℝ) : EReal)) = false := by
    simpa only [decide_eq_false_iff_not, EReal.coe_lt_coe_iff, not_lt] using htiny
  have h2 : decide (((r / 448 : ℝ) : EReal) = ⊤) = false := by simp only [decide_eq_false_iff_not]; exact EReal.coe_ne_top _
  simp only [Ideal.cmp, h1, h2]
  show min _ _ = _
  rw [Ideal.log_coe, if_neg (not_le.mpr hpos), Ideal.log_coe, if_neg (by norm_num), Ideal.div_coe hl2.ne',
    ← EReal.coe_mul, Ideal.liftRound_coe, ← EReal.coe_add]
  have hlb : ((n : ℤ) - 136 : ℤ) ≤ ⌊Real.log (r / 448) * (1 / Real.log 2)⌋ := by
    rw [Int.le_floor, mul_one_div, le_div_iff₀ hl2]
    have := Real.log_le_log (by positivity) hv
    rwa [Real.log_zpow] at this
  rw [← EReal.coe_strictMono.monotone.map_min]
  congr 1
  by_cases h255 : n < 255
  · have hub : ⌊Real.log (r / 448) * (1 / Real.log 2)⌋ < (n : ℤ) - 135 := by
      rw [Int.floor_lt, mul_one_div, div_lt_iff₀ hl2]
      have : r / 448 < (2 : ℝ) ^ ((n : ℤ) - 135) := by rw [div_lt_iff₀ (by norm_num)]; linarith [hhi h255]
      have := Real.log_lt_log hpos this
      rwa [Real.log_zpow] at this
    have he : ⌊Real.log (r / 448) * (1 / Real.log 2)⌋ = (n : ℤ) - 136 := by omega
    rw [he, min_eq_left]
    · push_cast; ring
    · have : (n : ℝ) ≤ 254 := by exact_mod_cast (by omega : n ≤ 254)
      push_cast; linarith
  · have h : n = 255 := by omega
    subst h
    rw [min_eq_right]
    · norm_num
    · have : ((119 : ℤ) : ℝ) ≤ (⌊Real.log (r / 448) * (1 / Real.log 2)⌋ : ℝ) := by exact_mod_cast hlb
      push_cast at this; linarith

theorem rpow_inv (n : ℕ) (h : n ≤ 262) : (2 : ℝ) ^ ((0 : ℝ) - ((n : ℝ) - 135)) = (2 : ℝ) ^ (((262 - n : ℕ) : ℤ) - 127) := by
  have e : (0 : ℝ) - ((n : ℝ) - 135) = ((((262 - n : ℕ) : ℤ) - 127 : ℤ) : ℝ) := by
    rw [Nat.cast_sub h]; push_cast; ring
  rw [e]; exact Real.rpow_intCast 2 _

theorem rpow_scale (n : ℕ) (h : 10 ≤ n) : (2 : ℝ) ^ ((n : ℝ) - 135) = (2 : ℝ) ^ (((n - 8 : ℕ) : ℤ) - 127) := by
  have e : (n : ℝ) - 135 = ((((n - 8 : ℕ) : ℤ) - 127 : ℤ) : ℝ) := by
    rw [Nat.cast_sub (by omega)]; push_cast; ring
  rw [e]; exact Real.rpow_intCast 2 _

/-- The kernel's words and the reference's exponent, together. -/
theorem scales (a : EReal) (h0 : 0 ≤ a) :
    kInv a = Ideal.exp2 (Ideal.ofBits .f32 0x00000000#32 - expo a) ∧ kScale a = Ideal.exp2 (expo a) := by
  have hone : Ideal.exp2 (0 : EReal) = ((2 : ℝ) ^ (((127 : ℕ) : ℤ) - 127) : ℝ) := by
    rw [← EReal.coe_zero, Ideal.exp2_coe]
    congr 1
    show (2 : ℝ) ^ (0 : ℝ) = _
    rw [Real.rpow_zero]; norm_num
  have hone' : Ideal.exp2 ((0 : ℝ) - (0 : EReal) : EReal) = ((2 : ℝ) ^ (((127 : ℕ) : ℤ) - 127) : ℝ) := by
    rw [← hone]; congr 1; simp
  have lowI : Ideal.ofBits .f32 (IntOp.shli .vector (16256#32) 16#32) = (((2 : ℝ) ^ (((127 : ℕ) : ℤ) - 127) : ℝ) : EReal) :=
    ofBits_pow _ 127 (by decide) (by decide) (by decide) (by omega) (by omega)
  have lowS : Ideal.ofBits .f32 (IntOp.shli .vector (IntOp.subi 32512#32 16256#32) 16#32) = (((2 : ℝ) ^ (((127 : ℕ) : ℤ) - 127) : ℝ) : EReal) :=
    ofBits_pow _ 127 (by decide) (by decide) (by decide) (by omega) (by omega)
  rw [litZero]
  by_cases ht : a = ⊤
  · subst ht
    have hb : invBits (rounded ⊤) = 16256#32 := by
      obtain ⟨f, k, hw, hf, mf, hk, mk⟩ := wordOf_spec ⊤ le_top
      have e : f.val = 255 := by
        have := Fin.le_def.mp (mf ⟨255, by omega⟩ le_top)
        simp at this
        omega
      unfold rounded
      rw [hw, e]
      exact rounded_inf k
    unfold kInv kScale
    rw [hb, expo_top]
    exact ⟨lowI.trans hone'.symm, lowS.trans hone.symm⟩
  · lift a to ℝ using ⟨ht, fun h => by rw [h] at h0; exact absurd h0 (by simp)⟩ with r
    obtain ⟨n, hn, hsmall, hlo, hhi⟩ := rounded_spec r (by exact_mod_cast h0)
    unfold kInv kScale
    rw [hn]
    by_cases hlow : n.val < 10
    · rw [low_words n hlow, expo_low r (hsmall hlow)]
      exact ⟨lowI.trans hone'.symm, lowS.trans hone.symm⟩
    · have h10 : 10 ≤ n.val := not_lt.mp hlow
      rw [expo_high r n.val h10 (by omega) (hlo h10) (hhi h10)]
      obtain ⟨i1, i2, i3⟩ := inv_words n h10
      obtain ⟨s1, s2, s3⟩ := scale_words n h10
      rw [ofBits_pow _ _ i1 i2 i3 (by omega) (by omega), ofBits_pow _ _ s1 s2 s3 (by omega) (by omega),
        ← EReal.coe_sub, Ideal.exp2_coe, Ideal.exp2_coe]
      exact ⟨congrArg (fun x : ℝ => (x : EReal)) (rpow_inv n.val (by omega)).symm,
        congrArg (fun x : ℝ => (x : EReal)) (rpow_scale n.val h10).symm⟩

/-- A block's magnitude is not negative. -/
theorem mag_nonneg (f : Fin 128 → EReal) : 0 ≤ mag f := by
  unfold mag
  rw [Finset.le_fold_max]
  refine Or.inr ⟨0, Finset.mem_univ _, ?_⟩
  rcases le_total 0 (f 0) with h | h
  · exact le_max_of_le_left h
  · exact le_max_of_le_right (by rw [EReal.neg_nonneg]; exact h)

theorem kInv_eq (f : Fin 128 → EReal) : kInv (mag f) = Ideal.exp2 (Ideal.ofBits .f32 0x00000000#32 - expo (mag f)) :=
  (scales (mag f) (mag_nonneg f)).1
theorem kScale_eq (f : Fin 128 → EReal) : kScale (mag f) = Ideal.exp2 (expo (mag f)) :=
  (scales (mag f) (mag_nonneg f)).2

end Cert.Proof

end
-- ==== Proof.Spec.lean ====
/- What both programs compute, entry by entry: which channels are kept, a block's magnitude, its codes, the activations
   and the weight read back, and their product. The two programs' own scales enter as parameters. -/
module

public import proofs.«01_k».proof.Proof.Scalar

@[expose] public section

noncomputable section

namespace Cert.Proof

open Idealize.ShloMosaic

theorem select_eq {α : Type} {w : ℕ} (a b : BitVec w) (x y : α) : Scalar.select (IntOp.cmpi .eq a b) x y = if a = b then x else y := by
  unfold IntOp.cmpi
  rw [select_ofBool]
  by_cases h : a = b <;> simp [h]

/-- Whether a flag is set. -/
def isOn (a : EReal) : BitVec 1 := Ideal.cmp .ogt a 0

/-- Channel `l` of block `g`; a channel's block; its place there. -/
def chan (g : Fin 14) (l : Fin 128) : Fin 1792 := ⟨128 * g.val + l.val, by omega⟩
def grp (c : Fin 1792) : Fin 14 := ⟨c.val / 128, by omega⟩
def lane (c : Fin 1792) : Fin 128 := ⟨c.val % 128, by omega⟩
/-- An output channel's block of 128. -/
def grpO (o : Fin 1024) : Fin 8 := ⟨o.val / 128, by omega⟩

theorem grp_chan (g : Fin 14) (l : Fin 128) : grp (chan g l) = g := Fin.ext (by simp only [grp, chan]; omega)
theorem chan_grp (c : Fin 1792) : chan (grp c) (lane c) = c := Fin.ext (by simp only [grp, chan, lane]; omega)

/-- Set where no outlier slot names channel `c`. -/
def keepW (idx : Fin 128 → BitVec 32) (c : Fin 1792) : BitVec 1 := BitVec.ofBool (decide (∀ s, idx s ≠ BitVec.ofNat 32 c.val))

/-- One where slot `s` names channel `c`. -/
def hot (idx : Fin 128 → BitVec 32) (s : Fin 128) (c : Fin 1792) : EReal := if idx s = BitVec.ofNat 32 c.val then 1 else 0

/-- The magnitude of a row of a block, by its flags and its entries. -/
def rowMag (k : Fin 128 → BitVec 1) (x : Fin 128 → EReal) : EReal := mag fun l => Scalar.select (k l) (x l) 0

/-- A code: the kept entry times the row's reciprocal scale, clipped. -/
def codeOf (inv : EReal) (k : BitVec 1) (x : EReal) : EReal :=
  min (Ideal.ofBits .f32 0x43E00000#32) (max (Ideal.ofBits .f32 0xC3E00000#32) (Scalar.select k x 0 * inv))

/-- The magnitude of block `g` of a row. -/
def magR (k : Fin 1792 → BitVec 1) (x : Fin 1792 → EReal) (g : Fin 14) : EReal := rowMag (fun l => k (chan g l)) (fun l => x (chan g l))

/-- A row's code at channel `c`, and the row read back there. -/
def codeV (inv : EReal → EReal) (k : Fin 1792 → BitVec 1) (x : Fin 1792 → EReal) (c : Fin 1792) : EReal :=
  codeOf (inv (magR k x (grp c))) (k c) (x c)
def xcV (inv sc : EReal → EReal) (k : Fin 1792 → BitVec 1) (x : Fin 1792 → EReal) (c : Fin 1792) : EReal :=
  Scalar.select (k c) (codeV inv k x c * sc (magR k x (grp c))) (x c)

/-- The weight at one output channel and channel `c`: the code times its scale, or the outlier column. -/
def wV (k : Fin 1792 → BitVec 1) (idx : Fin 128 → BitVec 32) (s : Fin 14 → EReal) (o : Fin 128 → EReal) (q : Fin 1792 → EReal) (c : Fin 1792) : EReal :=
  Scalar.select (k c) (q c * s (grp c)) (∑ n : Fin 128, o n * hot idx n c)

/-- One entry of the product. -/
def yV (xc w : Fin 1792 → EReal) : EReal := ∑ c, xc c * w c

/-- The reference's reciprocal scale and scale. -/
def rInv (a : EReal) : EReal := Ideal.exp2 (Ideal.ofBits .f32 0x00000000#32 - expo a)
def rScale (a : EReal) : EReal := Ideal.exp2 (expo a)

theorem kInv_magR (k : Fin 1792 → BitVec 1) (x : Fin 1792 → EReal) (g : Fin 14) : kInv (magR k x g) = rInv (magR k x g) := by
  have h : 0 ≤ magR k x g := by unfold magR rowMag; exact mag_nonneg _
  unfold rInv
  exact (scales (magR k x g) h).1
theorem kScale_magR (k : Fin 1792 → BitVec 1) (x : Fin 1792 → EReal) (g : Fin 14) : kScale (magR k x g) = rScale (magR k x g) := by
  have h : 0 ≤ magR k x g := by unfold magR rowMag; exact mag_nonneg _
  unfold rScale
  exact (scales (magR k x g) h).2

/-- The kernel's codes and read-back activations are the reference's. -/
theorem codeV_eq (k : Fin 1792 → BitVec 1) (x : Fin 1792 → EReal) (c : Fin 1792) : codeV kInv k x c = codeV rInv k x c := by
  unfold codeV; rw [kInv_magR]
theorem xcV_eq (k : Fin 1792 → BitVec 1) (x : Fin 1792 → EReal) (c : Fin 1792) : xcV kInv kScale k x c = xcV rInv rScale k x c := by
  unfold xcV; rw [codeV_eq, kScale_magR]

theorem negInf_bot : Ideal.ofBits .f32 0xFF800000#32 = (⊥ : EReal) := by
  unfold Ideal.ofBits Ideal.ieee
  have e1 : (BitVec.extractLsb' 23 8 0xFF800000#32).toNat = 255 := by decide
  have e2 : (BitVec.extractLsb' (8 + 23) 1 0xFF800000#32 == 1#1) = true := by decide
  have e3 : (BitVec.extractLsb' 0 23 0xFF800000#32).toNat = 0 := by decide
  simp only [e1, e2, e3]
  norm_num

/-- The kernel's stored flag: one less the largest of the one-hot entries. -/
def keepV (idx : Fin 128 → BitVec 32) (c : Fin 1792) : EReal :=
  1 - Finset.univ.fold max (Ideal.ofBits .f32 0xFF800000#32) fun s => hot idx s c

/-- It is set exactly at the kept channels. -/
theorem isOn_keepV (idx : Fin 128 → BitVec 32) (c : Fin 1792) : isOn (keepV idx c) = keepW idx c := by
  unfold isOn keepW keepV Ideal.cmp
  rw [negInf_bot]
  refine congrArg BitVec.ofBool ?_
  rw [decide_eq_decide]
  by_cases h : ∀ s, idx s ≠ BitVec.ofNat 32 c.val
  · have e : (Finset.univ.fold max (⊥ : EReal) fun s => hot idx s c) = 0 := by
      apply le_antisymm
      · rw [Finset.fold_max_le]
        exact ⟨bot_le, fun s _ => by simp [hot, h s]⟩
      · rw [Finset.le_fold_max]
        exact Or.inr ⟨0, Finset.mem_univ _, by simp [hot, h 0]⟩
    rw [e]
    simp [h]
  · have e : (Finset.univ.fold max (⊥ : EReal) fun s => hot idx s c) = 1 := by
      push Not at h
      obtain ⟨s0, h0⟩ := h
      apply le_antisymm
      · rw [Finset.fold_max_le]
        refine ⟨bot_le, fun s _ => ?_⟩
        unfold hot; split <;> simp
      · rw [Finset.le_fold_max]
        exact Or.inr ⟨s0, Finset.mem_univ _, by simp [hot, h0]⟩
    rw [e]
    have e0 : (1 : EReal) - 1 = 0 := by
      rw [← EReal.coe_one, ← EReal.coe_sub]; simp
    rw [e0]
    simp [h]

/-- The reference's flag: the largest of the one-hot words is zero. -/
theorem keepW_of_fold (idx : Fin 128 → BitVec 32) (c : Fin 1792) :
    IntOp.cmpi .eq (Finset.univ.fold IntOp.maxsi 2147483648#32 fun s => if BitVec.ofNat 32 c.val = idx s then 1#32 else 0#32) 0#32 = keepW idx c := by
  unfold keepW IntOp.cmpi
  refine congrArg BitVec.ofBool ?_
  obtain ⟨h1, h2⟩ := fold_maxsi Finset.univ 2147483648#32 fun s => if BitVec.ofNat 32 c.val = idx s then 1#32 else 0#32
  rw [Bool.eq_iff_iff, beq_iff_eq, decide_eq_true_eq]
  constructor
  · intro h s hs
    have := h2 s (Finset.mem_univ _)
    rw [h] at this
    simp [hs] at this
  · intro h
    rcases h1 with h1 | ⟨j, -, h1⟩
    · have := h2 0 (Finset.mem_univ _)
      rw [h1] at this
      simp [Ne.symm (h 0)] at this
    · rw [h1]; simp [Ne.symm (h j)]

end Cert.Proof

end
-- ==== Proof.BlockValues.lean ====
/- The block functions read at an index, over the extended reals. -/
module

public import proofs.«01_k».proof.Proof.Blocks
public import proofs.«01_k».proof.Proof.Spec
public import Idealize.ShloMosaic.Lib.Pointwise

@[expose] public section

set_option synthInstance.maxSize 4096

noncomputable section

namespace Cert.KernelIdeal.Hand

open Idealize.ShloMosaic Idealize.ShloMosaic.TcCoe Idealize.SL.Sem Cert.KernelIdeal Cert.KernelIdeal.Gen Cert.Proof

theorem maskB_apply (k : Vec Ideal S1x128 .bf16) (r c : Fin 128) : maskB k (ix2 r c) = isOn (k (ix2 0 c)) := by
  pointwise [maskB, isOn]

theorem xinB_apply (k : Vec Ideal S1x128 .bf16) (x : Vec Ideal S128x128 .bf16) (r c : Fin 128) :
    xinB k x (ix2 r c) = Scalar.select (isOn (k (ix2 0 c))) (x (ix2 r c)) 0 := by
  pointwise [xinB, maskB, isOn]

theorem magB_apply (k : Vec Ideal S1x128 .bf16) (x : Vec Ideal S128x128 .bf16) (r : Fin 128) :
    magB k x (ix2 r 0) = mag fun l => xinB k x (ix2 r l) := by
  unfold magB
  generalize xinB k x = v
  pointwise [mag]
  rfl

theorem fieldB_apply (a : FVec Ideal S128x1 .f32) (r : Fin 128) : fieldB a (ix2 r 0) = fieldOf (a (ix2 r 0)) := by
  pointwise [fieldB, fieldOf, candF]

theorem roundedB_apply (a : FVec Ideal S128x1 .f32) (r : Fin 128) : roundedB a (ix2 r 0) = rounded (a (ix2 r 0)) := by
  unfold rounded wordOf
  rw [← fieldB_apply]
  unfold roundedB
  generalize fieldB a = f
  pointwise [wordsB, candW]

theorem invBitsB_apply (b : IVec S128x1 32) (j : S128x1.Idx) : invBitsB b j = invBits (b j) := by
  pointwise [invBitsB, invBits]

theorem rounded_apply (k : Vec Ideal S1x128 .bf16) (x : Vec Ideal S128x128 .bf16) (r : Fin 128) :
    roundedB (magB k x) (ix2 r 0) = rounded (rowMag (fun l => isOn (k (ix2 0 l))) (fun l => x (ix2 r l))) := by
  rw [roundedB_apply, magB_apply]
  unfold rowMag
  refine congrArg (fun f => rounded (mag f)) (funext fun l => ?_)
  exact xinB_apply k x r l

theorem scB_apply (k : Vec Ideal S1x128 .bf16) (x : Vec Ideal S128x128 .bf16) (r c : Fin 128) :
    scB k x (ix2 r c) = kScale (rowMag (fun l => isOn (k (ix2 0 l))) (fun l => x (ix2 r l))) := by
  unfold kScale
  rw [← rounded_apply]
  unfold scB
  generalize roundedB (magB k x) = b
  rw [← invBitsB_apply]
  generalize invBitsB b = v
  pointwise

theorem invB_apply (k : Vec Ideal S1x128 .bf16) (x : Vec Ideal S128x128 .bf16) (r c : Fin 128) :
    invB k x (ix2 r c) = kInv (rowMag (fun l => isOn (k (ix2 0 l))) (fun l => x (ix2 r l))) := by
  unfold kInv
  rw [← rounded_apply]
  unfold invB
  generalize roundedB (magB k x) = b
  rw [← invBitsB_apply]
  generalize invBitsB b = v
  pointwise

theorem codesB_apply (k : Vec Ideal S1x128 .bf16) (x : Vec Ideal S128x128 .bf16) (r c : Fin 128) :
    codesB k x (ix2 r c) = codeOf (kInv (rowMag (fun l => isOn (k (ix2 0 l))) (fun l => x (ix2 r l)))) (isOn (k (ix2 0 c))) (x (ix2 r c)) := by
  unfold codesB codeOf
  rw [← invB_apply k x r c, ← xinB_apply k x r c]
  generalize invB k x = v
  generalize xinB k x = u
  pointwise

theorem xcB_apply (k : Vec Ideal S1x128 .bf16) (x : Vec Ideal S128x128 .bf16) (r c : Fin 128) :
    xcB k x (ix2 r c) = Scalar.select (isOn (k (ix2 0 c))) (codesB k x (ix2 r c) * scB k x (ix2 r c)) (x (ix2 r c)) := by
  rw [← maskB_apply k r c]
  unfold xcB
  generalize maskB k = u
  generalize codesB k x = v
  generalize scB k x = w
  pointwise

theorem yB_apply (xc : Vec Ideal S128x1792 .bf16) (w : Vec Ideal S1024x1792 .bf16) (r : Fin 128) (o : Fin 1024) :
    yB xc w (ix2 r o) = ∑ c : Fin 1792, xc (ix2 r c) * w (ix2 o c) := by
  pointwise [yB]

theorem stepB_apply (g : BitVec 32) (k : Vec Ideal S1x128 .bf16) (x : Vec Ideal S128x128 .bf16) (v : FVec Ideal S128x128 .f32) (r c : Fin 128) :
    stepB g k x v (ix2 r c) = if BitVec.ofNat 32 c.val = g then scB k x (ix2 r c) else v (ix2 r c) := by
  unfold stepB
  generalize scB k x = w
  pointwise
  rw [select_eq]

theorem onehotB_apply (o : BitVec 32) (i : Vec Ideal S1x128 .i32) (r c : Fin 128) :
    onehotB (F := Ideal) o i (ix2 r c) = if i (ix2 0 r) = BitVec.ofNat 32 c.val + o then 1 else 0 := by
  pointwise [onehotB, slotB]
  rw [select_eq]; rfl

theorem keepB_apply (o : BitVec 32) (i : Vec Ideal S1x128 .i32) (r : Fin 16) (c : Fin 128) :
    keepB (F := Ideal) o i (ix2 r c) = 1 - Finset.univ.fold max (Ideal.ofBits .f32 0xFF800000#32) fun s : Fin 128 => onehotB (F := Ideal) o i (ix2 s c) := by
  unfold keepB
  generalize onehotB (F := Ideal) o i = v
  pointwise

theorem wfullB_apply (o : BitVec 32) (i : Vec Ideal S1x128 .i32) (w : Vec Ideal S1024x128 .bf16) (r : Fin 1024) (c : Fin 128) :
    wfullB (F := Ideal) o i w (ix2 r c) = ∑ s : Fin 128, w (ix2 r s) * onehotB (F := Ideal) o i (ix2 s c) := by
  unfold wfullB
  generalize onehotB (F := Ideal) o i = v
  pointwise

theorem wB_apply (n : ℕ) (h : S1024x128.Slices ![n, 0] S128x128) (hn : n + 128 ≤ 1024) (wf : FVec Ideal S1024x128 .bf16) (s : Elt Ideal .f32)
    (q : Vec Ideal S128x128 .fp8e4m3) (k : Vec Ideal S1x128 .bf16) (r c : Fin 128) :
    wB n h wf s q k (ix2 r c) = Scalar.select (isOn (k (ix2 0 c))) (q (ix2 r c) * s) (wf (ix2 ⟨n + r.val, by omega⟩ c)) := by
  unfold wB
  rw [← maskB_apply k r c]
  generalize maskB k = u
  pointwise

end Cert.KernelIdeal.Hand

end
-- ==== Proof.Outputs.lean ====
/- What the stored pieces hold together: each buffer's canonical contents, entry by entry. -/
module

public import proofs.«01_k».proof.Proof.Loads
public import proofs.«01_k».proof.Proof.BlockValues

@[expose] public section

set_option synthInstance.maxSize 4096
set_option maxRecDepth 16384

noncomputable section

namespace Cert.KernelIdeal.Hand

open Idealize.ShloMosaic Idealize.ShloMosaic.TcCoe Idealize.SL Idealize.SL.Sem Cert.KernelIdeal Cert.KernelIdeal.Gen Cert.Proof

/-! ## The lists, as one piece per block -/

section
variable {F : FTy → Type} [FloatOps F]

abbrev gs : List (Fin 14) := [13, 12, 11, 10, 9, 8, 7, 6, 5, 4, 3, 2, 1, 0]
def prs : List (Fin 4 × Fin 14) := [3, 2, 1, 0].flatMap fun r => gs.map fun g => (r, g)
def prsW : List (Fin 8 × Fin 14) := gs.flatMap fun g => [7, 6, 5, 4, 3, 2, 1, 0].map fun n => (n, g)

theorem mem_rows : ∀ r : Fin 4, r ∈ ([3, 2, 1, 0] : List (Fin 4)) := by decide
theorem mem_prs : ∀ r g, (r, g) ∈ prs := by decide
theorem mem_prsW : ∀ n g, (n, g) ∈ prsW := by decide

theorem cls_eq (K : Vec F S16x1792 .bf16) (X : Vec F S512x1792 .bf16) : cls K X = prs.map fun p => pC K X p.1 p.2 := rfl
theorem wls_eq (I : Vec F S1x128 .i32) (S : Vec F S8x14 .f32) (O : Vec F S1024x128 .bf16) (Q : Vec F S1024x1792 .fp8e4m3) :
    wls I S O Q = prsW.map fun p => pW I S O Q p.1 p.2 := rfl
theorem tls_eq (K : Vec F S16x1792 .bf16) (X : Vec F S512x1792 .bf16) : tls K X = ([3, 2, 1, 0] : List (Fin 4)).map (pT K X) := rfl
theorem yls_eq (K : Vec F S16x1792 .bf16) (X : Vec F S512x1792 .bf16) (W : Vec F S1024x1792 .bf16) :
    yls K X W = ([3, 2, 1, 0] : List (Fin 4)).map (pY K X W) := rfl
def below (g : Fin 14) : List (Fin 14) := gs.drop (13 - g.val)
theorem mem_below : ∀ g, g ∈ below g := by decide
theorem kls_eq (I : Vec F S1x128 .i32) (g : Fin 14) : kls I g = (below g).map (pK I) := by
  fin_cases g <;> rfl
def prsX (r : Fin 4) : List (Fin 4 × Fin 14) := ([3, 2, 1, 0].drop (3 - r.val)).flatMap fun r => gs.map fun g => (r, g)
theorem mem_prsX : ∀ r g, (r, g) ∈ prsX r := by decide
theorem xcs_eq (K : Vec F S16x1792 .bf16) (X : Vec F S512x1792 .bf16) (r : Fin 4) : xcs K X r = (prsX r).map fun p => pXc K X p.1 p.2 := by
  fin_cases r <;> rfl
end

/-! ## Where the blocks lie -/

def row4 (r : Fin 4) (a : Fin 128) : Fin 512 := ⟨128 * r.val + a.val, by omega⟩
def row8 (n : Fin 8) (a : Fin 128) : Fin 1024 := ⟨128 * n.val + a.val, by omega⟩

theorem emb_rK (g : Fin 14) (c : Fin 128) : (rK g).emb (ix2 0 c) = ix2 (0 : Fin 16) (chan g c) := by
  funext a; fin_cases a <;> exact Fin.ext (by rw [Rect.emb_apply]; simp [chan])
theorem emb_rK16 (g : Fin 14) (r : Fin 16) (c : Fin 128) : (rK16 g).emb (ix2 r c) = ix2 r (chan g c) := by
  funext a; fin_cases a <;> exact Fin.ext (by rw [Rect.emb_apply]; simp [chan])
theorem emb_rX (r : Fin 4) (g : Fin 14) (a c : Fin 128) : (rX r g).emb (ix2 a c) = ix2 (row4 r a) (chan g c) := by
  funext x; fin_cases x <;> exact Fin.ext (by rw [Rect.emb_apply]; simp [chan, row4])
theorem emb_rQ (n : Fin 8) (g : Fin 14) (a c : Fin 128) : (rQ n g).emb (ix2 a c) = ix2 (row8 n a) (chan g c) := by
  funext x; fin_cases x <;> exact Fin.ext (by rw [Rect.emb_apply]; simp [chan, row8])
theorem emb_rR (r : Fin 4) (a : Fin 128) (c : Fin 1792) : (rR r).emb (ix2 a c) = ix2 (row4 r a) c := by
  funext x; fin_cases x <;> exact Fin.ext (by rw [Rect.emb_apply]; simp [row4])
theorem emb_rT (r : Fin 4) (a : Fin 128) (c : Fin 14) : (rT r).emb (ix2 a c) = ix2 (row4 r a) c := by
  funext x; fin_cases x <;> exact Fin.ext (by rw [Rect.emb_apply]; simp [row4])
theorem emb_rY (r : Fin 4) (a : Fin 128) (c : Fin 1024) : (rY r).emb (ix2 a c) = ix2 (row4 r a) c := by
  funext x; fin_cases x <;> exact Fin.ext (by rw [Rect.emb_apply]; simp [row4])
theorem emb_rW (a : Fin 1024) (c : Fin 1792) : rW.emb (ix2 a c) = ix2 a c := by
  funext x; fin_cases x <;> exact Fin.ext (by rw [Rect.emb_apply]; simp)
theorem emb_rS (n : Fin 8) (g : Fin 14) : (rS n g).emb (Shape.Idx.first (s := S1x1) (by decide)) = ix2 n g := by
  funext x; fin_cases x <;> exact Fin.ext (by rw [Rect.emb_apply]; simp [Shape.Idx.first])
theorem iAt_eq {F : FTy → Type} (I : Vec F S1x128 .i32) : iAt I = I := by
  funext j; unfold iAt
  exact congrArg I (funext fun x => by fin_cases x <;> exact Fin.ext (by rw [Rect.emb_apply]; simp))
theorem oAt_eq {F : FTy → Type} (O : Vec F S1024x128 .bf16) : oAt O = O := by
  funext j; unfold oAt
  exact congrArg O (funext fun x => by fin_cases x <;> exact Fin.ext (by rw [Rect.emb_apply]; simp))

theorem mem_rX (y : S512x1792.Idx) : ∃ r g, y ∈ (rX r g).set := by
  have h0 : (y 0).val < 512 := (y 0).isLt
  have h1 : (y 1).val < 1792 := (y 1).isLt
  refine ⟨⟨(y 0).val / 128, by omega⟩, ⟨(y 1).val / 128, by omega⟩, ?_⟩
  rw [Rect.mem_set_unit]
  intro a; fin_cases a
  · exact ⟨by show 128 * ((y 0).val / 128) ≤ (y 0).val; omega, by show (y 0).val < 128 * ((y 0).val / 128) + 128; omega⟩
  · exact ⟨by show 128 * ((y 1).val / 128) ≤ (y 1).val; omega, by show (y 1).val < 128 * ((y 1).val / 128) + 128; omega⟩
theorem mem_rQ (y : S1024x1792.Idx) : ∃ r g, y ∈ (rQ r g).set := by
  have h0 : (y 0).val < 1024 := (y 0).isLt
  have h1 : (y 1).val < 1792 := (y 1).isLt
  refine ⟨⟨(y 0).val / 128, by omega⟩, ⟨(y 1).val / 128, by omega⟩, ?_⟩
  rw [Rect.mem_set_unit]
  intro a; fin_cases a
  · exact ⟨by show 128 * ((y 0).val / 128) ≤ (y 0).val; omega, by show (y 0).val < 128 * ((y 0).val / 128) + 128; omega⟩
  · exact ⟨by show 128 * ((y 1).val / 128) ≤ (y 1).val; omega, by show (y 1).val < 128 * ((y 1).val / 128) + 128; omega⟩
theorem mem_rK16 (r : Fin 16) (c : Fin 1792) : (ix2 r c : S16x1792.Idx) ∈ (rK16 (grp c)).set := by
  rw [Rect.mem_set_unit]
  intro a; fin_cases a
  · exact ⟨Nat.zero_le _, by show r.val < 0 + 16; omega⟩
  · exact ⟨by show 128 * (c.val / 128) ≤ c.val; omega, by show c.val < 128 * (c.val / 128) + 128; omega⟩
theorem mem_rT (y : S512x14.Idx) : ∃ r, y ∈ (rT r).set := by
  have h0 : (y 0).val < 512 := (y 0).isLt
  have h1 : (y 1).val < 14 := (y 1).isLt
  refine ⟨⟨(y 0).val / 128, by omega⟩, ?_⟩
  rw [Rect.mem_set_unit]
  intro a; fin_cases a
  · exact ⟨by show 128 * ((y 0).val / 128) ≤ (y 0).val; omega, by show (y 0).val < 128 * ((y 0).val / 128) + 128; omega⟩
  · exact ⟨Nat.zero_le _, by show (y 1).val < 0 + 14; omega⟩
theorem mem_rY (y : S512x1024.Idx) : ∃ r, y ∈ (rY r).set := by
  have h0 : (y 0).val < 512 := (y 0).isLt
  have h1 : (y 1).val < 1024 := (y 1).isLt
  refine ⟨⟨(y 0).val / 128, by omega⟩, ?_⟩
  rw [Rect.mem_set_unit]
  intro a; fin_cases a
  · exact ⟨by show 128 * ((y 0).val / 128) ≤ (y 0).val; omega, by show (y 0).val < 128 * ((y 0).val / 128) + 128; omega⟩
  · exact ⟨Nat.zero_le _, by show (y 1).val < 0 + 1024; omega⟩

end Cert.KernelIdeal.Hand

end
-- ==== Proof.Contents.lean ====
/- What the stored pieces hold together: each buffer's canonical contents, entry by entry. -/
module

public import proofs.«01_k».proof.Proof.Outputs

@[expose] public section

set_option synthInstance.maxSize 4096
set_option maxRecDepth 16384

noncomputable section

namespace Cert.KernelIdeal.Hand

open Idealize.ShloMosaic Idealize.ShloMosaic.TcCoe Idealize.SL Idealize.SL.Sem Cert.KernelIdeal Cert.KernelIdeal.Gen Cert.Proof

/-- The slots' channels; the flags a buffer holds; one row of a block of the activations. -/
def idxOf (I : Vec Ideal S1x128 .i32) (s : Fin 128) : BitVec 32 := I (ix2 0 s)
def flags (K : Vec Ideal S16x1792 .bf16) (c : Fin 1792) : BitVec 1 := isOn (K (ix2 (0 : Fin 16) c))
def rowOf (X : Vec Ideal S512x1792 .bf16) (r : Fin 512) (c : Fin 1792) : EReal := X (ix2 r c)

variable (K : Vec Ideal S16x1792 .bf16) (X : Vec Ideal S512x1792 .bf16) (W : Vec Ideal S1024x1792 .bf16)
  (I : Vec Ideal S1x128 .i32) (S : Vec Ideal S8x14 .f32) (O : Vec Ideal S1024x128 .bf16) (Q : Vec Ideal S1024x1792 .fp8e4m3)

theorem kAt_apply (g : Fin 14) (l : Fin 128) : kAt K g (ix2 0 l) = K (ix2 (0 : Fin 16) (chan g l)) := congrArg K (emb_rK g l)
theorem xAt_apply (r : Fin 4) (g : Fin 14) (a l : Fin 128) : xAt X r g (ix2 a l) = rowOf X (row4 r a) (chan g l) := congrArg X (emb_rX r g a l)
theorem qAt_apply (n : Fin 8) (g : Fin 14) (a l : Fin 128) : qAt Q n g (ix2 a l) = Q (ix2 (row8 n a) (chan g l)) := congrArg Q (emb_rQ n g a l)

/-- The magnitude of a row of a block, as the row's. -/
theorem mag_block (r : Fin 4) (g : Fin 14) (a : Fin 128) :
    rowMag (fun l => isOn (kAt K g (ix2 0 l))) (fun l => xAt X r g (ix2 a l)) = magR (flags K) (rowOf X (row4 r a)) g := by
  unfold magR
  congr 1
  · funext l; rw [kAt_apply]; rfl
  · funext l; rw [xAt_apply]

theorem codes_block (r : Fin 4) (g : Fin 14) (a l : Fin 128) :
    codesB (kAt K g) (xAt X r g) (ix2 a l) = codeV kInv (flags K) (rowOf X (row4 r a)) (chan g l) := by
  rw [codesB_apply, mag_block, kAt_apply, xAt_apply]
  unfold codeV
  rw [grp_chan]
  rfl

theorem sc_block (r : Fin 4) (g : Fin 14) (a l : Fin 128) :
    scB (kAt K g) (xAt X r g) (ix2 a l) = kScale (magR (flags K) (rowOf X (row4 r a)) g) := by
  rw [scB_apply, mag_block]

theorem xc_block (r : Fin 4) (g : Fin 14) (a l : Fin 128) :
    xcB (kAt K g) (xAt X r g) (ix2 a l) = xcV kInv kScale (flags K) (rowOf X (row4 r a)) (chan g l) := by
  rw [xcB_apply, codes_block, sc_block, kAt_apply, xAt_apply]
  unfold xcV
  rw [grp_chan]
  rfl

/-- The codes' block. -/
theorem canon_cls (y : S512x1792.Idx) : View.canon (cls K X) y = codeV kInv (flags K) (rowOf X (y 0)) (y 1) := by
  rw [cls_eq]
  refine View.canon_apply_of_pieces (Val := Elt Ideal) (e := .fp8e4m3) (fun y : S512x1792.Idx => codeV kInv (flags K) (rowOf X (y 0)) (y 1)) _ (fun p hp j => ?_) y ?_
  · obtain ⟨⟨r, g⟩, -, rfl⟩ := List.mem_map.mp hp
    obtain ⟨a, l, rfl⟩ : ∃ (a l : Fin 128), j = ix2 a l := ⟨j 0, j 1, (ix2_eta j).symm⟩
    show codesB (kAt K g) (xAt X r g) (ix2 a l) = codeV kInv (flags K) (rowOf X ((rX r g).emb (ix2 a l) 0)) ((rX r g).emb (ix2 a l) 1)
    rw [codes_block, emb_rX]
    rfl
  · obtain ⟨r, g, h⟩ := mem_rX y
    exact ⟨pC K X r g, List.mem_map.mpr ⟨(r, g), mem_prs r g, rfl⟩, h⟩

/-- The activations read back, at rows `128 r` on. -/
theorem canon_xcs (r : Fin 4) (a : Fin 128) (c : Fin 1792) :
    View.canon (xcs K X r) (ix2 (row4 r a) c : S512x1792.Idx) = xcV kInv kScale (flags K) (rowOf X (row4 r a)) c := by
  rw [xcs_eq]
  refine View.canon_apply_of_pieces (Val := Elt Ideal) (e := .bf16) (fun y : S512x1792.Idx => xcV kInv kScale (flags K) (rowOf X (y 0)) (y 1)) _ (fun p hp j => ?_) _ ?_
  · obtain ⟨⟨r, g⟩, -, rfl⟩ := List.mem_map.mp hp
    obtain ⟨a, l, rfl⟩ : ∃ (a l : Fin 128), j = ix2 a l := ⟨j 0, j 1, (ix2_eta j).symm⟩
    show xcB (kAt K g) (xAt X r g) (ix2 a l) = xcV kInv kScale (flags K) (rowOf X ((rX r g).emb (ix2 a l) 0)) ((rX r g).emb (ix2 a l) 1)
    rw [xc_block, emb_rX]
    rfl
  · refine ⟨pXc K X r (grp c), List.mem_map.mpr ⟨(r, grp c), mem_prsX r _, rfl⟩, ?_⟩
    show (ix2 (row4 r a) c : S512x1792.Idx) ∈ (rX r (grp c)).set
    rw [Rect.mem_set_unit]
    intro x; fin_cases x
    · exact ⟨by show 128 * r.val ≤ 128 * r.val + a.val; omega, by show 128 * r.val + a.val < 128 * r.val + 128; omega⟩
    · exact ⟨by show 128 * (c.val / 128) ≤ c.val; omega, by show c.val < 128 * (c.val / 128) + 128; omega⟩

/-- The product's block. -/
theorem canon_yls (y : S512x1024.Idx) :
    View.canon (yls K X W) y = yV (xcV kInv kScale (flags K) (rowOf X (y 0))) (fun c => W (ix2 (y 1 : Fin 1024) c)) := by
  rw [yls_eq]
  refine View.canon_apply_of_pieces (Val := Elt Ideal) (e := .bf16) (fun y : S512x1024.Idx =>
    yV (xcV kInv kScale (flags K) (rowOf X (y 0))) (fun c => W (ix2 (y 1 : Fin 1024) c))) _ (fun p hp j => ?_) y ?_
  · obtain ⟨r, -, rfl⟩ := List.mem_map.mp hp
    obtain ⟨a, o, rfl⟩ : ∃ (a : Fin 128) (o : Fin 1024), j = ix2 a o := ⟨j 0, j 1, (ix2_eta j).symm⟩
    show yB (fun j => View.canon (xcs K X r) ((rR r).emb j)) (fun j => W (rW.emb j)) (ix2 a o)
      = yV (xcV kInv kScale (flags K) (rowOf X ((rY r).emb (ix2 a o) 0))) (fun c => W (ix2 ((rY r).emb (ix2 a o) 1 : Fin 1024) c))
    rw [yB_apply, emb_rY]
    unfold yV
    refine Finset.sum_congr rfl fun c _ => ?_
    rw [emb_rR, emb_rW, canon_xcs]
    rfl
  · obtain ⟨r, h⟩ := mem_rY y
    exact ⟨pY K X W r, List.mem_map.mpr ⟨r, mem_rows r, rfl⟩, h⟩

/-- One of fourteen chained selections. -/
theorem xsB_apply (k : Fin 14 → Vec Ideal S1x128 .bf16) (x : Fin 14 → Vec Ideal S128x128 .bf16) (a : Fin 128) (g : Fin 14) :
    xsB k x (ix2 a g) = scB (k g) (x g) (ix2 a ⟨g.val, by omega⟩) := by
  have e : xsB k x (ix2 a g) = (stepB 13#32 (k 13) (x 13) (stepB 12#32 (k 12) (x 12) (stepB 11#32 (k 11) (x 11) (stepB 10#32 (k 10) (x 10)
    (stepB 9#32 (k 9) (x 9) (stepB 8#32 (k 8) (x 8) (stepB 7#32 (k 7) (x 7) (stepB 6#32 (k 6) (x 6)
    (stepB 5#32 (k 5) (x 5) (stepB 4#32 (k 4) (x 4) (stepB 3#32 (k 3) (x 3) (stepB 2#32 (k 2) (x 2)
    (stepB 1#32 (k 1) (x 1) (stepB 0#32 (k 0) (x 0) (broadcast S128x128 (Scalar.ofBits (F := Ideal) .f32 0x00000000#32)))))))))))))))) (ix2 a ⟨g.val, by omega⟩) := by
    unfold xsB
    generalize stepB 13#32 (k 13) (x 13) _ = v
    pointwise
  rw [e]
  simp only [stepB_apply]
  fin_cases g <;> simp

/-- The scales' block. -/
theorem canon_tls (y : S512x14.Idx) : View.canon (tls K X) y = kScale (magR (flags K) (rowOf X (y 0)) (y 1)) := by
  rw [tls_eq]
  refine View.canon_apply_of_pieces (Val := Elt Ideal) (e := .f32) (fun y : S512x14.Idx => kScale (magR (flags K) (rowOf X (y 0)) (y 1))) _ (fun p hp j => ?_) y ?_
  · obtain ⟨r, -, rfl⟩ := List.mem_map.mp hp
    obtain ⟨a, g, rfl⟩ : ∃ (a : Fin 128) (g : Fin 14), j = ix2 a g := ⟨j 0, j 1, (ix2_eta j).symm⟩
    show xsB (fun g => kAt K g) (fun g => xAt X r g) (ix2 a g) = kScale (magR (flags K) (rowOf X ((rT r).emb (ix2 a g) 0)) ((rT r).emb (ix2 a g) 1))
    rw [xsB_apply, sc_block, emb_rT]
    rfl
  · obtain ⟨r, h⟩ := mem_rT y
    exact ⟨pT K X r, List.mem_map.mpr ⟨r, mem_rows r, rfl⟩, h⟩

/-! ## The weight's preparation -/

theorem onehot_block (g : Fin 14) (s l : Fin 128) :
    onehotB (F := Ideal) (BitVec.ofNat 32 (128 * g.val)) I (ix2 s l) = hot (idxOf I) s (chan g l) := by
  rw [onehotB_apply]
  unfold hot
  have e : BitVec.ofNat 32 l.val + BitVec.ofNat 32 (128 * g.val) = BitVec.ofNat 32 (chan g l).val := by
    rw [← BitVec.ofNat_add, Nat.add_comm]; rfl
  rw [e]
  rfl

/-- The flags' contents, at blocks up to `g`. -/
theorem canon_kls (g : Fin 14) (r : Fin 16) (c : Fin 1792) (hc : grp c ∈ below g) :
    View.canon (kls I g) (ix2 r c : S16x1792.Idx) = keepV (idxOf I) c := by
  rw [kls_eq]
  refine View.canon_apply_of_pieces (Val := Elt Ideal) (e := .bf16) (fun y : S16x1792.Idx => keepV (idxOf I) (y 1)) _ (fun p hp j => ?_) _
    ⟨pK I (grp c), List.mem_map.mpr ⟨_, hc, rfl⟩, mem_rK16 r c⟩
  obtain ⟨g, -, rfl⟩ := List.mem_map.mp hp
  obtain ⟨a, l, rfl⟩ : ∃ (a : Fin 16) (l : Fin 128), j = ix2 a l := ⟨j 0, j 1, (ix2_eta j).symm⟩
  show keepB (BitVec.ofNat 32 (128 * g.val)) (iAt I) (ix2 a l) = keepV (idxOf I) ((rK16 g).emb (ix2 a l) 1)
  rw [iAt_eq, keepB_apply, emb_rK16]
  unfold keepV
  refine congrArg (fun f => 1 - Finset.univ.fold max (Ideal.ofBits .f32 0xFF800000#32) f) (funext fun s => ?_)
  rw [onehot_block]
  rfl

theorem flags_kls : flags (View.canon (kls I 13)) = keepW (idxOf I) := by
  funext c
  unfold flags
  rw [canon_kls I 13 0 c (by generalize grp c = g; revert g; decide), isOn_keepV]

/-- The prepared weight. -/
theorem canon_wls (o : Fin 1024) (c : Fin 1792) : View.canon (wls I S O Q) (ix2 o c : S1024x1792.Idx)
    = wV (keepW (idxOf I)) (idxOf I) (fun g => S (ix2 (grpO o) g)) (fun s => O (ix2 o s)) (fun c => Q (ix2 o c)) c := by
  rw [wls_eq]
  refine View.canon_apply_of_pieces (Val := Elt Ideal) (e := .bf16) (fun y : S1024x1792.Idx => wV (keepW (idxOf I)) (idxOf I) (fun g => S (ix2 (grpO (y 0)) g))
    (fun s => O (ix2 (y 0 : Fin 1024) s)) (fun c => Q (ix2 (y 0 : Fin 1024) c)) (y 1)) _ (fun p hp j => ?_) _ ?_
  · obtain ⟨⟨n, g⟩, -, rfl⟩ := List.mem_map.mp hp
    obtain ⟨a, l, rfl⟩ : ∃ (a l : Fin 128), j = ix2 a l := ⟨j 0, j 1, (ix2_eta j).symm⟩
    show wB (128 * n.val) (slW n) (wfullB (BitVec.ofNat 32 (128 * g.val)) (iAt I) (oAt O))
      (S ((rS n g).emb (Shape.Idx.first (s := S1x1) (by decide)))) (qAt Q n g) (fun j => View.canon (kls I g) ((rK g).emb j)) (ix2 a l)
      = wV (keepW (idxOf I)) (idxOf I) (fun g' => S (ix2 (grpO ((rQ n g).emb (ix2 a l) 0)) g'))
          (fun s => O (ix2 ((rQ n g).emb (ix2 a l) 0 : Fin 1024) s)) (fun c => Q (ix2 ((rQ n g).emb (ix2 a l) 0 : Fin 1024) c)) ((rQ n g).emb (ix2 a l) 1)
    rw [wB_apply _ _ (by omega), emb_rQ, emb_rS, qAt_apply, emb_rK, canon_kls I g 0 (chan g l) (by rw [grp_chan]; exact mem_below g), isOn_keepV,
      iAt_eq, oAt_eq, wfullB_apply]
    unfold wV
    have eg : grpO (row8 n a) = n := Fin.ext (by simp only [grpO, row8]; omega)
    show Scalar.select (keepW (idxOf I) (chan g l)) (Q (ix2 (row8 n a) (chan g l)) * S (ix2 n g)) _
      = Scalar.select (keepW (idxOf I) (chan g l)) (Q (ix2 (row8 n a) (chan g l)) * S (ix2 (grpO (row8 n a)) (grp (chan g l)))) _
    rw [eg, grp_chan]
    refine congrArg (Scalar.select _ _) (Finset.sum_congr rfl fun s _ => ?_)
    rw [onehot_block]
    rfl
  · obtain ⟨n, g, h⟩ := mem_rQ (ix2 o c)
    exact ⟨pW I S O Q n g, List.mem_map.mpr ⟨(n, g), mem_prsW n g, rfl⟩, h⟩

end Cert.KernelIdeal.Hand

end
-- ==== Proof.KernelArrays.lean ====
/- The kernel's three results, entry by entry, from the arrays it is launched on. -/
module

public import proofs.«01_k».proof.Proof.PointValues
public import proofs.«01_k».proof.Proof.Contents
public import proofs.«01_k».proof.Proof.Gen.KernelIdeal.Value

@[expose] public section

set_option synthInstance.maxSize 4096
set_option maxRecDepth 16384

noncomputable section

namespace Cert.KernelIdeal.Hand

open Idealize.ShloMosaic Idealize.ShloMosaic.TcCoe
open Idealize.SL Idealize.SL.Sem Cert.KernelIdeal Cert.KernelIdeal.Gen Cert.KernelIdeal.Value Cert.Proof

/-! ## Where each window's block lies in its array -/

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = t.val ∧ win0_4.index t (1 : Fin 2) = 0 := (by decide +kernel : ∀ t : Fin grid0.N, _)

theorem emb0 (t : Fin cfg0.N) (j : S1x128.Idx) : ((cfg0.win 0).blk t).view.emb j = j := by
  obtain ⟨e0, e1⟩ := at0 t
  funext a; apply Fin.ext
  match a with
  | ⟨0, _⟩ => show win0_0.index t (0 : Fin 2) * 1 + 1 * (j 0).val = (j 0).val; omega
  | ⟨1, _⟩ => show win0_0.index t (1 : Fin 2) * 128 + 1 * (j 1).val = (j 1).val; omega
theorem emb1 (t : Fin cfg0.N) (j : S8x14.Idx) : ((cfg0.win 1).blk t).view.emb j = j := by
  obtain ⟨e0, e1⟩ := at1 t
  funext a; apply Fin.ext
  match a with
  | ⟨0, _⟩ => show win0_1.index t (0 : Fin 2) * 8 + 1 * (j 0).val = (j 0).val; omega
  | ⟨1, _⟩ => show win0_1.index t (1 : Fin 2) * 14 + 1 * (j 1).val = (j 1).val; omega
theorem emb2 (t : Fin cfg0.N) (j : S1024x128.Idx) : ((cfg0.win 2).blk t).view.emb j = j := by
  obtain ⟨e0, e1⟩ := at2 t
  funext a; apply Fin.ext
  match a with
  | ⟨0, _⟩ => show win0_2.index t (0 : Fin 2) * 1024 + 1 * (j 0).val = (j 0).val; omega
  | ⟨1, _⟩ => show win0_2.index t (1 : Fin 2) * 128 + 1 * (j 1).val = (j 1).val; omega
theorem emb3 (t : Fin cfg0.N) (j : S1024x1792.Idx) : ((cfg0.win 3).blk t).view.emb j = j := by
  obtain ⟨e0, e1⟩ := at3 t
  funext a; apply Fin.ext
  match a with
  | ⟨0, _⟩ => show win0_3.index t (0 : Fin 2) * 1024 + 1 * (j 0).val = (j 0).val; omega
  | ⟨1, _⟩ => show win0_3.index t (1 : Fin 2) * 1792 + 1 * (j 1).val = (j 1).val; omega

/-- The point that holds row `n`, and the row's place in that point's block. -/
def ptOf (n : Fin 3072) : Fin cfg0.N := ⟨n.val / 512, lt_of_lt_of_eq (by omega) (show cfg0.N = 6 from N_0).symm⟩
def inPt (n : Fin 3072) : Fin 512 := ⟨n.val % 512, by omega⟩

theorem emb4 (n : Fin 3072) (c : Fin 1792) : ((cfg0.win 4).blk (ptOf n)).view.emb (ix2 (inPt n) c : S512x1792.Idx) = (ix2 n c : S3072x1792.Idx) := by
  obtain ⟨e0, e1⟩ := at4 (ptOf n)
  have e2 : (ptOf n).val = n.val / 512 := rfl
  funext a; apply Fin.ext
  match a with
  | ⟨0, _⟩ => show win0_4.index (ptOf n) (0 : Fin 2) * 512 + 1 * (n.val % 512) = n.val; omega
  | ⟨1, _⟩ => show win0_4.index (ptOf n) (1 : Fin 2) * 1792 + 1 * c.val = c.val; omega

/-! ## The arrays the region finds -/

section Arrays

variable {F : FTy → Type} [FloatOps F] (m : (ℓ : Loc nD τ sig) → Buf (Elt F) ℓ)

theorem V_idx (c : Dev nD) : V m c main_v0 = shapeCast S1x128 (m ((c : Thread nD τ).loc main_arg1)) shapeCasts_S128_S1x128 := by
  simp only [V, hostOps0, StableHlo.after_cons, StableHlo.after_nil]
  rfl
theorem V_x (c : Dev nD) : V m c main_v1 = shapeCast S3072x1792 (m ((c : Thread nD τ).loc main_arg0)) shapeCasts_S2x1536x1792_S3072x1792 := by
  simp only [V, hostOps0, StableHlo.after_cons, StableHlo.after_nil]
  rfl

theorem blk_idx (c : Dev nD) (t : Fin cfg0.N) : iblk m c 0 t = shapeCast S1x128 (m ((c : Thread nD τ).loc main_arg1)) shapeCasts_S128_S1x128 := by
  rw [← V_idx]; funext j; show V m c main_v0 (((cfg0.win 0).blk t).view.emb j) = V m c main_v0 j; rw [emb0]
theorem blk_ws (c : Dev nD) (t : Fin cfg0.N) : iblk m c 1 t = m ((c : Thread nD τ).loc main_arg4) := by
  rw [← V_main_arg4 m c]; funext j; show V m c main_arg4 (((cfg0.win 1).blk t).view.emb j) = V m c main_arg4 j; rw [emb1]
theorem blk_wo (c : Dev nD) (t : Fin cfg0.N) : iblk m c 2 t = m ((c : Thread nD τ).loc main_arg2) := by
  rw [← V_main_arg2 m c]; funext j; show V m c main_arg2 (((cfg0.win 2).blk t).view.emb j) = V m c main_arg2 j; rw [emb2]
theorem blk_wc (c : Dev nD) (t : Fin cfg0.N) : iblk m c 3 t = m ((c : Thread nD τ).loc main_arg3) := by
  rw [← V_main_arg3 m c]; funext j; show V m c main_arg3 (((cfg0.win 3).blk t).view.emb j) = V m c main_arg3 j; rw [emb3]
theorem blk_x (c : Dev nD) (n : Fin 3072) (k : Fin 1792) :
    iblk m c 4 (ptOf n) (ix2 (inPt n) k : S512x1792.Idx) = shapeCast S3072x1792 (m ((c : Thread nD τ).loc main_arg0)) shapeCasts_S2x1536x1792_S3072x1792 (ix2 n k) := by
  rw [← V_x]; show V m c main_v1 (((cfg0.win 4).blk (ptOf n)).view.emb (ix2 (inPt n) k : S512x1792.Idx)) = _; rw [emb4]

end Arrays

/-! ## The results -/

variable (m : (ℓ : Loc nD τ sig) → Buf (Elt Ideal) ℓ)

/-- The arrays the run is launched on. -/
def idx1 (c : Dev nD) (s : Fin 128) : BitVec 32 := shapeCast S1x128 (m ((c : Thread nD τ).loc main_arg1)) shapeCasts_S128_S1x128 (ix2 0 s)
def xRow (c : Dev nD) (n : Fin 3072) (k : Fin 1792) : EReal := shapeCast S3072x1792 (m ((c : Thread nD τ).loc main_arg0)) shapeCasts_S2x1536x1792_S3072x1792 (ix2 n k)
def wRow (c : Dev nD) (o : Fin 1024) (k : Fin 1792) : EReal :=
  wV (keepW (idx1 m c)) (idx1 m c) (fun g => (m ((c : Thread nD τ).loc main_arg4) : Vec Ideal S8x14 .f32) (ix2 (grpO o) g))
    (fun s => (m ((c : Thread nD τ).loc main_arg2) : Vec Ideal S1024x128 .bf16) (ix2 o s))
    (fun k => (m ((c : Thread nD τ).loc main_arg3) : Vec Ideal S1024x1792 .fp8e4m3) (ix2 o k)) k

theorem flags_eq (c : Dev nD) : flags (flagsBuf m c t0_0) = keepW (idx1 m c) := by
  unfold flagsBuf
  rw [flags_kls, blk_idx]
  rfl

theorem row_eq (c : Dev nD) (n : Fin 3072) : rowOf (iblk m c 4 (ptOf n)) (inPt n) = xRow m c n := by
  funext k
  exact blk_x m c n k

theorem weight_eq (c : Dev nD) (o : Fin 1024) (k : Fin 1792) : weightBuf m c t0_0 (ix2 o k) = wRow m c o k := by
  unfold weightBuf
  rw [canon_wls, blk_idx, blk_ws, blk_wo, blk_wc]
  rfl

theorem y_at (c : Dev nD) (n : Fin 3072) (o : Fin 1024) :
    (outsAt0 m c (ptOf n).val (ptOf n).isLt).1 (ix2 (inPt n) o) = yV (xcV kInv kScale (keepW (idx1 m c)) (xRow m c n)) (wRow m c o) := by
  rw [after_y m c (ptOf n).val (ptOf n).isLt, canon_yls, flags_eq]
  have e : rowOf (iblk m c 4 (ptOf n)) ((ix2 (inPt n) o : S512x1024.Idx) 0) = xRow m c n := row_eq m c n
  rw [e]
  refine congrArg _ (funext fun k => ?_)
  exact weight_eq m c o k

theorem codes_at (c : Dev nD) (n : Fin 3072) (k : Fin 1792) :
    (outsAt0 m c (ptOf n).val (ptOf n).isLt).2.1 (ix2 (inPt n) k) = codeV kInv (keepW (idx1 m c)) (xRow m c n) k := by
  rw [after_codes m c (ptOf n).val (ptOf n).isLt, canon_cls, flags_eq]
  have e : rowOf (iblk m c 4 (ptOf n)) ((ix2 (inPt n) k : S512x1792.Idx) 0) = xRow m c n := row_eq m c n
  rw [e]
  rfl

theorem scales_at (c : Dev nD) (n : Fin 3072) (g : Fin 14) :
    (outsAt0 m c (ptOf n).val (ptOf n).isLt).2.2.1 (ix2 (inPt n) g) = kScale (magR (keepW (idx1 m c)) (xRow m c n) g) := by
  rw [after_scales m c (ptOf n).val (ptOf n).isLt, canon_tls, flags_eq]
  have e : rowOf (iblk m c 4 (ptOf n)) ((ix2 (inPt n) g : S512x14.Idx) 0) = xRow m c n := row_eq m c n
  rw [e]
  rfl

/-- The array of the first result. -/
theorem G5_at (c : Dev nD) (n : Fin 3072) (o : Fin 1024) :
    G5 m c (ix2 n o) = yV (xcV kInv kScale (keepW (idx1 m c)) (xRow m c n)) (wRow m c o) := by
  have hp : pt5Of (ix2 n o) = (ptOf n).val := by
    show 1 * (n.val / 512 - 0) + 1 * (o.val / 1024 - 0) = n.val / 512
    omega
  have hl : loc5Of (ix2 n o) = ix2 (inPt n) o := by
    funext a; apply Fin.ext
    match a with
    | ⟨0, _⟩ => rfl
    | ⟨1, _⟩ => show o.val % 1024 = o.val; omega
  rw [← y_at, outsAt0_sweep]
  unfold G5
  rw [dif_pos (by rw [hp]; exact (ptOf n).isLt), hl, fold0_congr m c _ _ _ _ hp]

/-- The array of the codes. -/
theorem G6_at (c : Dev nD) (n : Fin 3072) (k : Fin 1792) : G6 m c (ix2 n k) = codeV kInv (keepW (idx1 m c)) (xRow m c n) k := by
  have hp : pt6Of (ix2 n k) = (ptOf n).val := by
    show 1 * (n.val / 512 - 0) + 1 * (k.val / 1792 - 0) = n.val / 512
    omega
  have hl : loc6Of (ix2 n k) = ix2 (inPt n) k := by
    funext a; apply Fin.ext
    match a with
    | ⟨0, _⟩ => rfl
    | ⟨1, _⟩ => show k.val % 1792 = k.val; omega
  rw [← codes_at, outsAt0_sweep]
  unfold G6
  rw [dif_pos (by rw [hp]; exact (ptOf n).isLt), hl, fold0_congr m c _ _ _ _ hp]

/-- The array of the scales. -/
theorem G7_at (c : Dev nD) (n : Fin 3072) (g : Fin 14) : G7 m c (ix2 n g) = kScale (magR (keepW (idx1 m c)) (xRow m c n) g) := by
  have hp : pt7Of (ix2 n g) = (ptOf n).val := by
    show 1 * (n.val / 512 - 0) + 1 * (g.val / 14 - 0) = n.val / 512
    omega
  have hl : loc7Of (ix2 n g) = ix2 (inPt n) g := by
    funext a; apply Fin.ext
    match a with
    | ⟨0, _⟩ => rfl
    | ⟨1, _⟩ => show g.val % 14 = g.val; omega
  rw [← scales_at, outsAt0_sweep]
  unfold G7
  rw [dif_pos (by rw [hp]; exact (ptOf n).isLt), hl, fold0_congr m c _ _ _ _ hp]

end Cert.KernelIdeal.Hand
end
-- ==== Proof.RefPays.lean ====
/- What the reference computes, entry by entry: each intermediate array of its body in the terms of Spec.lean. -/
module

public import proofs.«01_k».proof.Proof.Spec
public import proofs.«01_k».proof.Proof.Gen.ReferenceIdeal.Frame
public import Idealize.ShloMosaic.Lib.Pointwise

@[expose] public section

set_option synthInstance.maxSize 4096
set_option maxRecDepth 16384

noncomputable section

namespace Cert.ReferenceIdeal.Hand

open Idealize.ShloMosaic Idealize.ShloMosaic.TcCoe Idealize.SL Idealize.SL.Sem Cert.ReferenceIdeal Cert.ReferenceIdeal.Gen Cert.Proof

variable (X : Vec Ideal S3072x1792 .bf16) (I : Vec Ideal S1x128 .i32) (O : Vec Ideal S1024x128 .bf16) (Q : Vec Ideal S1024x1792 .fp8e4m3) (S : Vec Ideal S8x14 .f32)

/-- The slots' channels, and one row of the activations. -/
def slots (s : Fin 128) : BitVec 32 := I (ix2 0 s)
def row (n : Fin 3072) (c : Fin 1792) : EReal := X (ix2 n c)

/-- The kept channels. -/
theorem pay4_apply (c : Fin 1792) : k0_pay4 (F := Ideal) I (ix1 c) = keepW (slots I) c := by
  rw [← keepW_of_fold]
  unfold k0_pay4 k0_pay3
  pointwise
  simp only [select_eq]
  rfl

theorem chan_eq (g : Fin 14) (l : Fin 128) : (⟨g.val * 128 + l.val, by omega⟩ : Fin 1792) = chan g l :=
  Fin.ext (by simp only [chan]; omega)

/-- The kept part of the activations, by blocks. -/
theorem pay5_apply (n : Fin 3072) (g : Fin 14) (l : Fin 128) :
    k0_pay5 (F := Ideal) X I (ix3 n g l) = Scalar.select (keepW (slots I) (chan g l)) (row X n (chan g l)) 0 := by
  rw [← pay4_apply]
  unfold k0_pay5 k0_pay2
  generalize k0_pay4 (F := Ideal) I = k
  pointwise
  rw [chan_eq]
  rfl

theorem pay6_apply (n : Fin 3072) (g : Fin 14) : k0_pay6 (F := Ideal) X I (ix2 n g) = expo (magR (keepW (slots I)) (row X n) g) := by
  have e : magR (keepW (slots I)) (row X n) g = mag fun l => k0_pay5 (F := Ideal) X I (ix3 n g l) := by
    unfold magR rowMag
    refine congrArg _ (funext fun l => ?_)
    rw [pay5_apply]
  rw [e]
  unfold k0_pay6
  generalize k0_pay5 (F := Ideal) X I = v
  pointwise [expo, mag]
  rfl

theorem pay7_apply (n : Fin 3072) (g : Fin 14) : k0_pay7 (F := Ideal) X I (ix2 n g) = rScale (magR (keepW (slots I)) (row X n) g) := by
  unfold rScale
  rw [← pay6_apply]
  unfold k0_pay7
  generalize k0_pay6 (F := Ideal) X I = v
  pointwise
  rfl

theorem pay9_apply (u : FVec Ideal S3072x14x128 .bf16) (e : FVec Ideal S3072x14 .f32) (n : Fin 3072) (g : Fin 14) (l : Fin 128) :
    k0_pay9 (F := Ideal) u e k0_pay8 (ix3 n g l) = min (Ideal.ofBits .f32 0x43E00000#32) (max (Ideal.ofBits .f32 0xC3E00000#32)
      (u (ix3 n g l) * Ideal.exp2 (Ideal.ofBits .f32 0x00000000#32 - e (ix2 n g)))) := by
  pointwise [k0_pay9, k0_pay8]
  rfl

/-- The codes, by blocks. -/
theorem codes_apply (n : Fin 3072) (g : Fin 14) (l : Fin 128) :
    k0_pay9 (F := Ideal) (k0_pay5 X I) (k0_pay6 X I) k0_pay8 (ix3 n g l) = codeV rInv (keepW (slots I)) (row X n) (chan g l) := by
  rw [pay9_apply, pay5_apply, pay6_apply]
  unfold codeV codeOf rInv
  rw [grp_chan]

/-- A reshape that joins blocks and lanes. -/
theorem pay1_apply (v : FVec Ideal S3072x14x128 .fp8e4m3) (n : Fin 3072) (c : Fin 1792) :
    k0_pay1 (F := Ideal) v (ix2 n c) = v (ix3 n (grp c) (lane c)) := by
  pointwise [k0_pay1]
  rfl

/-- The activations read back. -/
def xcA (v1 : FVec Ideal S3072x1792 .bf16) (v12 : IVec S1792 1) (u : FVec Ideal S3072x14x128 .fp8e4m3) (v40 : FVec Ideal S3072x14 .f32) (n : Fin 3072) (c : Fin 1792) : EReal :=
  Scalar.select (v12 (ix1 c)) (u (ix3 n (grp c) (lane c)) * v40 (ix2 n (grp c))) (v1 (ix2 n c))

/-- The weight. -/
def wA (v6 : IVec S1792x128 1) (v12 : IVec S1792 1) (v65 : Vec Ideal S8x14 .f32) (v67 : Vec Ideal S1024x1792 .fp8e4m3) (v73 : Vec Ideal S1024x128 .bf16) (o : Fin 1024) (c : Fin 1792) : EReal :=
  Scalar.select (v12 (ix1 c)) (v67 (ix2 o c) * v65 (ix2 (grpO o) (grp c))) (∑ s : Fin 128, v73 (ix2 o s) * Scalar.select (v6 (ix2 c s)) (1 : EReal) 0)

/-- The product, over the body's intermediate arrays. -/
theorem pay10_apply (v1 : FVec Ideal S3072x1792 .bf16) (v6 : IVec S1792x128 1) (v12 : IVec S1792 1) (v18 : FVec Ideal S3072x14x128 .bf16) (v39 v40 v41 : FVec Ideal S3072x14 .f32)
    (v65 : Vec Ideal S8x14 .f32) (v67 : Vec Ideal S1024x1792 .fp8e4m3) (v73 : Vec Ideal S1024x128 .bf16) (n : Fin 3072) (o : Fin 1024) :
    k0_pay10 (F := Ideal) v1 v6 v12 v18 v39 v40 v41 v65 v67 v73 (ix2 n o) = ∑ c : Fin 1792, xcA v1 v12 (k0_pay9 v18 v39 v41) v40 n c * wA v6 v12 v65 v67 v73 o c := by
  unfold k0_pay10 xcA wA
  generalize k0_pay9 (F := Ideal) v18 v39 v41 = u
  pointwise
  rfl

end Cert.ReferenceIdeal.Hand
end
-- ==== Proof.RefArrays.lean ====
/- The reference's three results, entry by entry, from the arrays it is launched on, and its run. -/
module

public import proofs.«01_k».proof.Proof.RefPays
public import Idealize.ShloMosaic.Lib.Pipeline.Value
public import Idealize.ShloMosaic.Lib.Pipeline.ValueKit

@[expose] public section

set_option synthInstance.maxSize 4096
set_option maxRecDepth 16384

noncomputable section

namespace Cert.ReferenceIdeal.Hand

open Idealize.ShloMosaic Idealize.ShloMosaic.TcCoe Idealize.SL Idealize.SL.Sem Cert.ReferenceIdeal Cert.ReferenceIdeal.Gen Cert.Proof

section Outputs

variable (X : Vec Ideal S3072x1792 .bf16) (I : Vec Ideal S1x128 .i32) (O : Vec Ideal S1024x128 .bf16) (Q : Vec Ideal S1024x1792 .fp8e4m3) (S : Vec Ideal S8x14 .f32)

theorem zero2 : (![0, 0] : Fin 2 → ℕ) = fun _ => 0 := funext fun a => by fin_cases a <;> rfl

theorem ld0 : View.ld X r0_0 = X := View.ld_unit_zero zero2 _ _
theorem ld1 : View.ld I r0_1 = I := View.ld_unit_zero zero2 _ _
theorem ld2 : View.ld S r0_2 = S := View.ld_unit_zero zero2 _ _
theorem ld3 : View.ld Q r0_3 = Q := View.ld_unit_zero zero2 _ _
theorem ld4 : View.ld O r0_4 = O := View.ld_unit_zero zero2 _ _

/-- One row of the weight. -/
def wrow (o : Fin 1024) (c : Fin 1792) : EReal :=
  wV (keepW (slots I)) (slots I) (fun g => S (ix2 (grpO o) g)) (fun s => O (ix2 o s)) (fun c => Q (ix2 o c)) c

theorem pay3_apply (c : Fin 1792) (s : Fin 128) : k0_pay3 (F := Ideal) I (ix2 c s) = IntOp.cmpi .eq (BitVec.ofNat 32 c.val) (slots I s) := by
  pointwise [k0_pay3]
  rfl

theorem w_apply (o : Fin 1024) (c : Fin 1792) : wA (k0_pay3 (F := Ideal) I) (k0_pay4 (F := Ideal) I) S Q O o c = wrow I O Q S o c := by
  unfold wA wrow wV
  rw [pay4_apply]
  refine congrArg _ (Finset.sum_congr rfl fun s _ => ?_)
  rw [pay3_apply, select_eq]
  unfold hot
  simp only [eq_comm]

theorem xc_apply (n : Fin 3072) (c : Fin 1792) :
    xcA (k0_pay2 (F := Ideal) X) (k0_pay4 (F := Ideal) I) (k0_pay9 (k0_pay5 X I) (k0_pay6 X I) k0_pay8) (k0_pay7 X I) n c
      = xcV rInv rScale (keepW (slots I)) (row X n) c := by
  unfold xcA xcV
  rw [pay4_apply, codes_apply, pay7_apply, chan_grp]
  refine congrArg _ ?_
  unfold k0_pay2
  pointwise
  rfl

theorem out5_apply (n : Fin 3072) (o : Fin 1024) :
    out0_5 X I O Q S (ix2 n o) = yV (xcV rInv rScale (keepW (slots I)) (row X n)) (wrow I O Q S o) := by
  unfold_out out0_5
  rw [View.canon_unit_zero zero2, ld0, ld1, ld2, ld3, ld4, pay10_apply]
  unfold yV
  refine Finset.sum_congr rfl fun c _ => ?_
  rw [xc_apply, w_apply]

theorem out6_apply (n : Fin 3072) (c : Fin 1792) : out0_6 X I O Q S (ix2 n c) = codeV rInv (keepW (slots I)) (row X n) c := by
  unfold_out out0_6
  rw [View.canon_unit_zero zero2, ld0, ld1, pay1_apply, codes_apply, chan_grp]

theorem out7_apply (n : Fin 3072) (g : Fin 14) : out0_7 X I O Q S (ix2 n g) = rScale (magR (keepW (slots I)) (row X n) g) := by
  unfold_out out0_7
  rw [View.canon_unit_zero zero2, ld0, ld1, pay7_apply]

end Outputs

/-! ## Every window is its whole array -/

theorem at0 : ∀ t : Fin cfg0.N, win0_0.index t (0 : Fin 2) = 0 ∧ win0_0.index t (1 : Fin 2) = 0 := (by decide +kernel : ∀ t : Fin grid0.N, _)
theorem at1 : ∀ t : Fin cfg0.N, win0_1.index t (0 : Fin 2) = 0 ∧ win0_1.index t (1 : Fin 2) = 0 := (by decide +kernel : ∀ t : Fin grid0.N, _)
theorem at2 : ∀ t : Fin cfg0.N, win0_2.index t (0 : Fin 2) = 0 ∧ win0_2.index t (1 : Fin 2) = 0 := (by decide +kernel : ∀ t : Fin grid0.N, _)
theorem at3 : ∀ t : Fin cfg0.N, win0_3.index t (0 : Fin 2) = 0 ∧ win0_3.index t (1 : Fin 2) = 0 := (by decide +kernel : ∀ t : Fin grid0.N, _)
theorem at4 : ∀ t : Fin cfg0.N, win0_4.index t (0 : Fin 2) = 0 ∧ win0_4.index t (1 : Fin 2) = 0 := (by decide +kernel : ∀ t : Fin grid0.N, _)
theorem at5 : ∀ t : Fin cfg0.N, win0_5.index t (0 : Fin 2) = 0 ∧ win0_5.index t (1 : Fin 2) = 0 := (by decide +kernel : ∀ t : Fin grid0.N, _)
theorem at6 : ∀ t : Fin cfg0.N, win0_6.index t (0 : Fin 2) = 0 ∧ win0_6.index t (1 : Fin 2) = 0 := (by decide +kernel : ∀ t : Fin grid0.N, _)
theorem at7 : ∀ t : Fin cfg0.N, win0_7.index t (0 : Fin 2) = 0 ∧ win0_7.index t (1 : Fin 2) = 0 := (by decide +kernel : ∀ t : Fin grid0.N, _)

theorem emb0 (t : Fin cfg0.N) (j : S3072x1792.Idx) : ((cfg0.win 0).blk t).view.emb j = j := by
  obtain ⟨e0, e1⟩ := at0 t
  funext a; apply Fin.ext
  match a with
  | ⟨0, _⟩ => show win0_0.index t (0 : Fin 2) * 3072 + 1 * (j 0).val = (j 0).val; omega
  | ⟨1, _⟩ => show win0_0.index t (1 : Fin 2) * 1792 + 1 * (j 1).val = (j 1).val; omega
theorem emb1 (t : Fin cfg0.N) (j : S1x128.Idx) : ((cfg0.win 1).blk t).view.emb j = j := by
  obtain ⟨e0, e1⟩ := at1 t
  funext a; apply Fin.ext
  match a with
  | ⟨0, _⟩ => show win0_1.index t (0 : Fin 2) * 1 + 1 * (j 0).val = (j 0).val; omega
  | ⟨1, _⟩ => show win0_1.index t (1 : Fin 2) * 128 + 1 * (j 1).val = (j 1).val; omega
theorem emb2 (t : Fin cfg0.N) (j : S1024x128.Idx) : ((cfg0.win 2).blk t).view.emb j = j := by
  obtain ⟨e0, e1⟩ := at2 t
  funext a; apply Fin.ext
  match a with
  | ⟨0, _⟩ => show win0_2.index t (0 : Fin 2) * 1024 + 1 * (j 0).val = (j 0).val; omega
  | ⟨1, _⟩ => show win0_2.index t (1 : Fin 2) * 128 + 1 * (j 1).val = (j 1).val; omega
theorem emb3 (t : Fin cfg0.N) (j : S1024x1792.Idx) : ((cfg0.win 3).blk t).view.emb j = j := by
  obtain ⟨e0, e1⟩ := at3 t
  funext a; apply Fin.ext
  match a with
  | ⟨0, _⟩ => show win0_3.index t (0 : Fin 2) * 1024 + 1 * (j 0).val = (j 0).val; omega
  | ⟨1, _⟩ => show win0_3.index t (1 : Fin 2) * 1792 + 1 * (j 1).val = (j 1).val; omega
theorem emb4 (t : Fin cfg0.N) (j : S8x14.Idx) : ((cfg0.win 4).blk t).view.emb j = j := by
  obtain ⟨e0, e1⟩ := at4 t
  funext a; apply Fin.ext
  match a with
  | ⟨0, _⟩ => show win0_4.index t (0 : Fin 2) * 8 + 1 * (j 0).val = (j 0).val; omega
  | ⟨1, _⟩ => show win0_4.index t (1 : Fin 2) * 14 + 1 * (j 1).val = (j 1).val; omega
theorem emb5 (t : Fin cfg0.N) (j : S3072x1024.Idx) : ((cfg0.win 5).blk t).view.emb j = j := by
  obtain ⟨e0, e1⟩ := at5 t
  funext a; apply Fin.ext
  match a with
  | ⟨0, _⟩ => show win0_5.index t (0 : Fin 2) * 3072 + 1 * (j 0).val = (j 0).val; omega
  | ⟨1, _⟩ => show win0_5.index t (1 : Fin 2) * 1024 + 1 * (j 1).val = (j 1).val; omega
theorem emb6 (t : Fin cfg0.N) (j : S3072x1792.Idx) : ((cfg0.win 6).blk t).view.emb j = j := by
  obtain ⟨e0, e1⟩ := at6 t
  funext a; apply Fin.ext
  match a with
  | ⟨0, _⟩ => show win0_6.index t (0 : Fin 2) * 3072 + 1 * (j 0).val = (j 0).val; omega
  | ⟨1, _⟩ => show win0_6.index t (1 : Fin 2) * 1792 + 1 * (j 1).val = (j 1).val; omega
theorem emb7 (t : Fin cfg0.N) (j : S3072x14.Idx) : ((cfg0.win 7).blk t).view.emb j = j := by
  obtain ⟨e0, e1⟩ := at7 t
  funext a; apply Fin.ext
  match a with
  | ⟨0, _⟩ => show win0_7.index t (0 : Fin 2) * 3072 + 1 * (j 0).val = (j 0).val; omega
  | ⟨1, _⟩ => show win0_7.index t (1 : Fin 2) * 14 + 1 * (j 1).val = (j 1).val; omega

theorem one (t : Fin cfg0.N) : t = t0_0 := fin_N0 t

section Arrays

variable {F : FTy → Type} [FloatOps F] (m : (ℓ : Loc nD τ sig) → Buf (Elt F) ℓ)

theorem V_idx (c : Dev nD) : V m c main_v1 = shapeCast S1x128 (m ((c : Thread nD τ).loc main_arg1)) shapeCasts_S128_S1x128 := by
  simp only [V, hostOps0, StableHlo.after_cons, StableHlo.after_nil]
  rfl
theorem V_x (c : Dev nD) : V m c main_v0 = shapeCast S3072x1792 (m ((c : Thread nD τ).loc main_arg0)) shapeCasts_S2x1536x1792_S3072x1792 := by
  simp only [V, hostOps0, StableHlo.after_cons, StableHlo.after_nil]
  rfl

theorem blk_x (c : Dev nD) (t : Fin cfg0.N) : iblk m c 0 t = shapeCast S3072x1792 (m ((c : Thread nD τ).loc main_arg0)) shapeCasts_S2x1536x1792_S3072x1792 := by
  rw [← V_x]; funext j; show V m c main_v0 (((cfg0.win 0).blk t).view.emb j) = V m c main_v0 j; rw [emb0]
theorem blk_idx (c : Dev nD) (t : Fin cfg0.N) : iblk m c 1 t = shapeCast S1x128 (m ((c : Thread nD τ).loc main_arg1)) shapeCasts_S128_S1x128 := by
  rw [← V_idx]; funext j; show V m c main_v1 (((cfg0.win 1).blk t).view.emb j) = V m c main_v1 j; rw [emb1]
theorem blk_wo (c : Dev nD) (t : Fin cfg0.N) : iblk m c 2 t = m ((c : Thread nD τ).loc main_arg2) := by
  rw [← V_main_arg2 m c]; funext j; show V m c main_arg2 (((cfg0.win 2).blk t).view.emb j) = V m c main_arg2 j; rw [emb2]
theorem blk_wc (c : Dev nD) (t : Fin cfg0.N) : iblk m c 3 t = m ((c : Thread nD τ).loc main_arg3) := by
  rw [← V_main_arg3 m c]; funext j; show V m c main_arg3 (((cfg0.win 3).blk t).view.emb j) = V m c main_arg3 j; rw [emb3]
theorem blk_ws (c : Dev nD) (t : Fin cfg0.N) : iblk m c 4 t = m ((c : Thread nD τ).loc main_arg4) := by
  rw [← V_main_arg4 m c]; funext j; show V m c main_arg4 (((cfg0.win 4).blk t).view.emb j) = V m c main_arg4 j; rw [emb4]

theorem cut5 (t : Fin cfg0.N) (Y : Vec F S3072x1024 .bf16) : (cfg0.win 5).cut (grid0.coords t) Y = ((cfg0.win 5).blk t).view.read (Elt F) Y := by
  funext j; show Y j = Y (((cfg0.win 5).blk t).view.emb j); rw [emb5]
theorem cut6 (t : Fin cfg0.N) (Y : Vec F S3072x1792 .fp8e4m3) : (cfg0.win 6).cut (grid0.coords t) Y = ((cfg0.win 6).blk t).view.read (Elt F) Y := by
  funext j; show Y j = Y (((cfg0.win 6).blk t).view.emb j); rw [emb6]
theorem cut7 (t : Fin cfg0.N) (Y : Vec F S3072x14 .f32) : (cfg0.win 7).cut (grid0.coords t) Y = ((cfg0.win 7).blk t).view.read (Elt F) Y := by
  funext j; show Y j = Y (((cfg0.win 7).blk t).view.emb j); rw [emb7]

/-- The arrays after the run: what the body computes of the arrays launched on. -/
def R5 (c : Dev nD) : Vec F S3072x1024 .bf16 := out0_5 (iblk m c 0 t0_0) (iblk m c 1 t0_0) (iblk m c 2 t0_0) (iblk m c 3 t0_0) (iblk m c 4 t0_0)
def R6 (c : Dev nD) : Vec F S3072x1792 .fp8e4m3 := out0_6 (iblk m c 0 t0_0) (iblk m c 1 t0_0) (iblk m c 2 t0_0) (iblk m c 3 t0_0) (iblk m c 4 t0_0)
def R7 (c : Dev nD) : Vec F S3072x14 .f32 := out0_7 (iblk m c 0 t0_0) (iblk m c 1 t0_0) (iblk m c 2 t0_0) (iblk m c 3 t0_0) (iblk m c 4 t0_0)

theorem final5 (c : Dev nD) : (dats m 0 c).arrAt 5 cfg0.N = R5 m c :=
  (dats m 0 c).arrAt_eq_of_cover 5 (R5 m c)
    (fun t _ => by
      obtain rfl : t = t0_0 := one t
      show (cfg0.win 5).cut (grid0.coords t0_0) ((dats m 0 c).after 5 t0_0) = _
      rw [after0_5]
      exact cut5 t0_0 _)
    (fun i => ⟨t0_0, flush0_5 _, by have h := ((cfg0.win 5).blk t0_0).view.emb_mem_set i; rwa [emb5] at h⟩)
theorem final6 (c : Dev nD) : (dats m 0 c).arrAt 6 cfg0.N = R6 m c :=
  (dats m 0 c).arrAt_eq_of_cover 6 (R6 m c)
    (fun t _ => by
      obtain rfl : t = t0_0 := one t
      show (cfg0.win 6).cut (grid0.coords t0_0) ((dats m 0 c).after 6 t0_0) = _
      rw [after0_6]
      exact cut6 t0_0 _)
    (fun i => ⟨t0_0, flush0_6 _, by have h := ((cfg0.win 6).blk t0_0).view.emb_mem_set i; rwa [emb6] at h⟩)
theorem final7 (c : Dev nD) : (dats m 0 c).arrAt 7 cfg0.N = R7 m c :=
  (dats m 0 c).arrAt_eq_of_cover 7 (R7 m c)
    (fun t _ => by
      obtain rfl : t = t0_0 := one t
      show (cfg0.win 7).cut (grid0.coords t0_0) ((dats m 0 c).after 7 t0_0) = _
      rw [after0_7]
      exact cut7 t0_0 _)
    (fun i => ⟨t0_0, flush0_7 _, by have h := ((cfg0.win 7).blk t0_0).view.emb_mem_set i; rwa [emb7] at h⟩)

end Arrays

/-! ## The results -/

section Results

variable (m : (ℓ : Loc nD τ sig) → Buf (Elt Ideal) ℓ)

/-- The arrays the run is launched on. -/
def idx1 (c : Dev nD) (s : Fin 128) : BitVec 32 := shapeCast S1x128 (m ((c : Thread nD τ).loc main_arg1)) shapeCasts_S128_S1x128 (ix2 0 s)
def xRow (c : Dev nD) (n : Fin 3072) (k : Fin 1792) : EReal := shapeCast S3072x1792 (m ((c : Thread nD τ).loc main_arg0)) shapeCasts_S2x1536x1792_S3072x1792 (ix2 n k)
def wRow (c : Dev nD) (o : Fin 1024) (k : Fin 1792) : EReal :=
  wV (keepW (idx1 m c)) (idx1 m c) (fun g => (m ((c : Thread nD τ).loc main_arg4) : Vec Ideal S8x14 .f32) (ix2 (grpO o) g))
    (fun s => (m ((c : Thread nD τ).loc main_arg2) : Vec Ideal S1024x128 .bf16) (ix2 o s))
    (fun k => (m ((c : Thread nD τ).loc main_arg3) : Vec Ideal S1024x1792 .fp8e4m3) (ix2 o k)) k

theorem R5_at (c : Dev nD) (n : Fin 3072) (o : Fin 1024) : R5 m c (ix2 n o) = yV (xcV rInv rScale (keepW (idx1 m c)) (xRow m c n)) (wRow m c o) := by
  unfold R5
  rw [out5_apply, blk_x, blk_idx, blk_wo, blk_wc, blk_ws]
  rfl
theorem R6_at (c : Dev nD) (n : Fin 3072) (k : Fin 1792) : R6 m c (ix2 n k) = codeV rInv (keepW (idx1 m c)) (xRow m c n) k := by
  unfold R6
  rw [out6_apply, blk_x, blk_idx]
  rfl
theorem R7_at (c : Dev nD) (n : Fin 3072) (g : Fin 14) : R7 m c (ix2 n g) = rScale (magR (keepW (idx1 m c)) (xRow m c n) g) := by
  unfold R7
  rw [out7_apply, blk_x, blk_idx]
  rfl

end Results

/-! ## The run -/

section Run

variable {F : FTy → Type} [FloatOps F] (m : (ℓ : Loc nD τ sig) → Buf (Elt F) ℓ) (ρ : Dev nD → PrngReg)

/-- Every run ends with the three arrays above, the arguments unchanged. -/
theorem run : θ_run defs (onTc (τ := τ) (main (F := F))) ⟨m, fun _ => 0, ρ⟩ fun r => ∀ c : Dev nD,
      r.2.mem ((c : Thread nD τ).loc main_v2_0) = R5 m c
      ∧ r.2.mem ((c : Thread nD τ).loc main_v2_1) = R6 m c
      ∧ r.2.mem ((c : Thread nD τ).loc main_v2_2) = R7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Run

end Cert.ReferenceIdeal.Hand
end
-- ==== Proof.Equation.lean ====
/- The two programs' arrays are equal where the arguments agree: the kernel's scale words are the reference's powers of two. -/
module

public import proofs.«01_k».proof.Proof.KernelArrays
public import proofs.«01_k».proof.Proof.RefArrays

@[expose] public section

noncomputable section

namespace Cert.Proof

open Idealize.ShloMosaic Idealize.ShloMosaic.TcCoe Idealize.SL.Sem

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The arguments of the two runs agree on device `c`. -/
structure Agree : Prop where
  x : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  idx : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  wo : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  wc : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ws : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable {m m' c}

theorem idx_agree (h : Agree m m' c) : Cert.ReferenceIdeal.Hand.idx1 m' c = Cert.KernelIdeal.Hand.idx1 m c := by
  funext s
  unfold Cert.ReferenceIdeal.Hand.idx1 Cert.KernelIdeal.Hand.idx1
  rw [h.idx]

theorem x_agree (h : Agree m m' c) (n : Fin 3072) : Cert.ReferenceIdeal.Hand.xRow m' c n = Cert.KernelIdeal.Hand.xRow m c n := by
  funext k
  unfold Cert.ReferenceIdeal.Hand.xRow Cert.KernelIdeal.Hand.xRow
  rw [h.x]

theorem w_agree (h : Agree m m' c) (o : Fin 1024) : Cert.ReferenceIdeal.Hand.wRow m' c o = Cert.KernelIdeal.Hand.wRow m c o := by
  funext k
  unfold Cert.ReferenceIdeal.Hand.wRow Cert.KernelIdeal.Hand.wRow
  rw [idx_agree h, h.wo, h.wc, h.ws]

theorem y_entry (h : Agree m m' c) (n : Fin 3072) (o : Fin 1024) :
    Cert.ReferenceIdeal.Hand.R5 m' c (ix2 n o) = Cert.KernelIdeal.Value.G5 m c (ix2 n o) := by
  rw [Cert.ReferenceIdeal.Hand.R5_at, Cert.KernelIdeal.Hand.G5_at, idx_agree h, x_agree h, w_agree h]
  refine congrArg (fun z => yV z _) (funext fun k => ?_)
  rw [xcV_eq]
theorem codes_entry (h : Agree m m' c) (n : Fin 3072) (k : Fin 1792) :
    Cert.ReferenceIdeal.Hand.R6 m' c (ix2 n k) = Cert.KernelIdeal.Value.G6 m c (ix2 n k) := by
  rw [Cert.ReferenceIdeal.Hand.R6_at, Cert.KernelIdeal.Hand.G6_at, idx_agree h, x_agree h, codeV_eq]
theorem scales_entry (h : Agree m m' c) (n : Fin 3072) (g : Fin 14) :
    Cert.ReferenceIdeal.Hand.R7 m' c (ix2 n g) = Cert.KernelIdeal.Value.G7 m c (ix2 n g) := by
  rw [Cert.ReferenceIdeal.Hand.R7_at, Cert.KernelIdeal.Hand.G7_at, idx_agree h, x_agree h, kScale_magR]

/-- The product. -/
theorem y_agree (h : Agree m m' c) : Cert.ReferenceIdeal.Hand.R5 m' c = Cert.KernelIdeal.Value.G5 m c := by
  funext i
  have e := y_entry h (i 0) (i 1)
  rw [ix2_eta i] at e
  exact e

/-- The codes. -/
theorem codes_agree (h : Agree m m' c) : Cert.ReferenceIdeal.Hand.R6 m' c = Cert.KernelIdeal.Value.G6 m c := by
  funext i
  have e := codes_entry h (i 0) (i 1)
  rw [ix2_eta i] at e
  exact e

/-- The scales. -/
theorem scales_agree (h : Agree m m' c) : Cert.ReferenceIdeal.Hand.R7 m' c = Cert.KernelIdeal.Value.G7 m c := by
  funext i
  have e := scales_entry h (i 0) (i 1)
  rw [ix2_eta i] at e
  exact e

end

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The two programs' results are equal as extended reals. -/
theorem algebraic [hK : Cert.KernelIdeal.Facts] [hR : Cert.ReferenceIdeal.Facts] : algebraic_KernelIdeal_ReferenceIdeal := by
  intro m ρ m' ρ' _ hagree
  have ha : ∀ c, Agree m m' c := fun c => ⟨(hagree c).1, (hagree c).2.1, (hagree c).2.2.1, (hagree c).2.2.2.1, (hagree c).2.2.2.2⟩
  refine ⟨fun c => Cert.KernelIdeal.Value.G5 m c, fun c => Cert.KernelIdeal.Value.G6 m c, fun c => Cert.KernelIdeal.Value.G7 m c,
    Cert.KernelIdeal.Value.run m ρ, ?_⟩
  exact (θ_run Cert.ReferenceIdeal.defs _ _).mono (fun _ h c => ⟨(h c).1.trans (y_agree (ha c)), (h c).2.1.trans (codes_agree (ha c)),
    (h c).2.2.1.trans (scales_agree (ha c)), (h c).2.2.2⟩) (Cert.ReferenceIdeal.Hand.run m' ρ')

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, algebraic (hK := Cert.KernelIdeal.Gen.facts) (hR := Cert.ReferenceIdeal.Gen.facts)⟩

end Cert.Proof

end
